-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x3x2x512x1024 : Shape := ⟨5, ![2, 3, 2, 512, 1024]⟩
abbrev S2x6x2 : Shape := ⟨3, ![2, 6, 2]⟩
abbrev S2x4 : Shape := ⟨2, ![2, 4]⟩
abbrev S2x4x2 : Shape := ⟨3, ![2, 4, 2]⟩
abbrev S1x1 : Shape := ⟨2, ![1, 1]⟩
abbrev S_ : Shape := ⟨0, ![]⟩
abbrev S1024x1024 : Shape := ⟨2, ![1024, 1024]⟩
abbrev S1x1x1 : Shape := ⟨3, ![1, 1, 1]⟩
abbrev S1x1x1x512x1024 : Shape := ⟨5, ![1, 1, 1, 512, 1024]⟩
abbrev S512x1024 : Shape := ⟨2, ![512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2x3x2x512x1024, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_off1 (d0 : Dev nD) (c1_i32_14 : BitVec 32) : Fin 2 → Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi v2 c1_i32_14
  let c4_i32_15 : BitVec 32 := 4#32
  let v27 : BitVec 32 := Scalar.addi v26 c4_i32_15
  let c4_i32_16 : BitVec 32 := 4#32
  let c0_i32_17 : BitVec 32 := 0#32
  let v28 : BitVec 1 := Scalar.cmpi .eq c4_i32_16 c0_i32_17
  let c1_i32_18 : BitVec 32 := 1#32
  let v29 : BitVec 32 := Scalar.select v28 c1_i32_18 c4_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c1024_i32 : BitVec 32 := 1024#32
  let v38 : BitVec 32 := Scalar.muli v37 c1024_i32
  let v39 : BitVec 32 := Scalar.addi c0_i32_22 v38
  let c0_i32_25 : BitVec 32 := 0#32
  ![v39.toNat, 0]
def k0_off2 (d0 : Dev nD) (c1_i32_27 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c1_i32_27
  let c4_i32_28 : BitVec 32 := 4#32
  let c0_i32_29 : BitVec 32 := 0#32
  let v45 : BitVec 1 := Scalar.cmpi .eq c4_i32_28 c0_i32_29
  let c1_i32_30 : BitVec 32 := 1#32
  let v46 : BitVec 32 := Scalar.select v45 c1_i32_30 c4_i32_28
  let v47 : BitVec 32 := Scalar.remsi v44 v46
  let c0_i32_32 : BitVec 32 := 0#32
  let v49 : BitVec 1 := Scalar.cmpi .slt v47 c0_i32_32
  let c0_i32_33 : BitVec 32 := 0#32
  let v50 : BitVec 1 := Scalar.cmpi .slt v46 c0_i32_33
  let v51 : BitVec 1 := Scalar.xori v49 v50
  let c0_i32_31 : BitVec 32 := 0#32
  let v48 : BitVec 1 := Scalar.cmpi .ne v47 c0_i32_31
  let v52 : BitVec 1 := Scalar.andi v51 v48
  let v53 : BitVec 32 := Scalar.addi v47 v46
  let v54 : BitVec 32 := Scalar.select v52 v53 v47
  let c1024_i32_34 : BitVec 32 := 1024#32
  let v55 : BitVec 32 := Scalar.muli v54 c1024_i32_34
  let v56 : BitVec 32 := Scalar.addi c4096_i32 v55
  let c0_i32_37 : BitVec 32 := 0#32
  ![v56.toNat, 0]
def k0_dev1 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_92 : BitVec 32 := 1#32
  let v132 : BitVec 32 := Scalar.muli v14 c1_i32_92
  let v133 : BitVec 32 := Scalar.addi c0_i32_93 v132
  v133.toNat
def k0_dev2 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_95 : BitVec 32 := 1#32
  let v134 : BitVec 32 := Scalar.muli v25 c1_i32_95
  let v135 : BitVec 32 := Scalar.addi c0_i32_96 v134
  v135.toNat
def k0_off3 (d0 : Dev nD) (c0_i32_99 : BitVec 32) (c0_i32_100 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_98 : BitVec 32 := 1024#32
  let v136 : BitVec 32 := Scalar.muli v2 c1024_i32_98
  let v137 : BitVec 32 := Scalar.addi c0_i32_99 v136
  let v138 : BitVec 32 := Scalar.addi v137 c0_i32_100
  let c0_i32_114 : BitVec 32 := 0#32
  ![v138.toNat, 0]
def k0_dev3 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_110 : BitVec 32 := 1#32
  let v139 : BitVec 32 := Scalar.muli v25 c1_i32_110
  let v140 : BitVec 32 := Scalar.addi c0_i32_111 v139
  v140.toNat
def k0_dev4 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_127 : BitVec 32 := 1#32
  let v151 : BitVec 32 := Scalar.muli v14 c1_i32_127
  let v152 : BitVec 32 := Scalar.addi c0_i32_128 v151
  v152.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_143 : BitVec 32 := 1#32
  let v163 : BitVec 32 := Scalar.muli v25 c1_i32_143
  let v164 : BitVec 32 := Scalar.addi c0_i32_144 v163
  v164.toNat
def k0_dev6 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_160 : BitVec 32 := 1#32
  let v175 : BitVec 32 := Scalar.muli v14 c1_i32_160
  let v176 : BitVec 32 := Scalar.addi c0_i32_161 v175
  v176.toNat
def k0_off4 (d0 : Dev nD) (c1_i32_173 : BitVec 32) (c0_i32_183 : BitVec 32) : Fin 2 → Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v192 : BitVec 32 := Scalar.subi v2 c1_i32_173
  let c4_i32_174 : BitVec 32 := 4#32
  let v193 : BitVec 32 := Scalar.addi v192 c4_i32_174
  let c4_i32_175 : BitVec 32 := 4#32
  let c0_i32_176 : BitVec 32 := 0#32
  let v194 : BitVec 1 := Scalar.cmpi .eq c4_i32_175 c0_i32_176
  let c1_i32_177 : BitVec 32 := 1#32
  let v195 : BitVec 32 := Scalar.select v194 c1_i32_177 c4_i32_175
  let v196 : BitVec 32 := Scalar.remsi v193 v195
  let c0_i32_179 : BitVec 32 := 0#32
  let v198 : BitVec 1 := Scalar.cmpi .slt v196 c0_i32_179
  let c0_i32_180 : BitVec 32 := 0#32
  let v199 : BitVec 1 := Scalar.cmpi .slt v195 c0_i32_180
  let v200 : BitVec 1 := Scalar.xori v198 v199
  let c0_i32_178 : BitVec 32 := 0#32
  let v197 : BitVec 1 := Scalar.cmpi .ne v196 c0_i32_178
  let v201 : BitVec 1 := Scalar.andi v200 v197
  let v202 : BitVec 32 := Scalar.addi v196 v195
  let v203 : BitVec 32 := Scalar.select v201 v202 v196
  let c1024_i32_181 : BitVec 32 := 1024#32
  let v204 : BitVec 32 := Scalar.muli v203 c1024_i32_181
  let v205 : BitVec 32 := Scalar.addi c0_i32_182 v204
  let v206 : BitVec 32 := Scalar.addi v205 c0_i32_183
  let c0_i32_197 : BitVec 32 := 0#32
  ![v206.toNat, 0]
def k0_off5 (d0 : Dev nD) (c1_i32_198 : BitVec 32) (c0_i32_208 : BitVec 32) : Fin 2 → Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v214 : BitVec 32 := Scalar.subi v2 c1_i32_198
  let c4_i32_199 : BitVec 32 := 4#32
  let v215 : BitVec 32 := Scalar.addi v214 c4_i32_199
  let c4_i32_200 : BitVec 32 := 4#32
  let c0_i32_201 : BitVec 32 := 0#32
  let v216 : BitVec 1 := Scalar.cmpi .eq c4_i32_200 c0_i32_201
  let c1_i32_202 : BitVec 32 := 1#32
  let v217 : BitVec 32 := Scalar.select v216 c1_i32_202 c4_i32_200
  let v218 : BitVec 32 := Scalar.remsi v215 v217
  let c0_i32_204 : BitVec 32 := 0#32
  let v220 : BitVec 1 := Scalar.cmpi .slt v218 c0_i32_204
  let c0_i32_205 : BitVec 32 := 0#32
  let v221 : BitVec 1 := Scalar.cmpi .slt v217 c0_i32_205
  let v222 : BitVec 1 := Scalar.xori v220 v221
  let c0_i32_203 : BitVec 32 := 0#32
  let v219 : BitVec 1 := Scalar.cmpi .ne v218 c0_i32_203
  let v223 : BitVec 1 := Scalar.andi v222 v219
  let v224 : BitVec 32 := Scalar.addi v218 v217
  let v225 : BitVec 32 := Scalar.select v223 v224 v218
  let c1024_i32_206 : BitVec 32 := 1024#32
  let v226 : BitVec 32 := Scalar.muli v225 c1024_i32_206
  let v227 : BitVec 32 := Scalar.addi c0_i32_207 v226
  let v228 : BitVec 32 := Scalar.addi v227 c0_i32_208
  let v229 : Index := Scalar.indexCast v228
  let c0 : Index := 0#32
  ![v229.toNat, 0]
def k0_dev7 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_235 : BitVec 32 := 1#32
  let v253 : BitVec 32 := Scalar.muli v25 c1_i32_235
  let v254 : BitVec 32 := Scalar.addi c0_i32_236 v253
  v254.toNat
def k0_off6 (d0 : Dev nD) (c1_i32_240 : BitVec 32) (c0_i32_249 : BitVec 32) : Fin 2 → Nat :=
  let c4096_i32_248 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v262 : BitVec 32 := Scalar.addi v2 c1_i32_240
  let c4_i32_241 : BitVec 32 := 4#32
  let c0_i32_242 : BitVec 32 := 0#32
  let v263 : BitVec 1 := Scalar.cmpi .eq c4_i32_241 c0_i32_242
  let c1_i32_243 : BitVec 32 := 1#32
  let v264 : BitVec 32 := Scalar.select v263 c1_i32_243 c4_i32_241
  let v265 : BitVec 32 := Scalar.remsi v262 v264
  let c0_i32_245 : BitVec 32 := 0#32
  let v267 : BitVec 1 := Scalar.cmpi .slt v265 c0_i32_245
  let c0_i32_246 : BitVec 32 := 0#32
  let v268 : BitVec 1 := Scalar.cmpi .slt v264 c0_i32_246
  let v269 : BitVec 1 := Scalar.xori v267 v268
  let c0_i32_244 : BitVec 32 := 0#32
  let v266 : BitVec 1 := Scalar.cmpi .ne v265 c0_i32_244
  let v270 : BitVec 1 := Scalar.andi v269 v266
  let v271 : BitVec 32 := Scalar.addi v265 v264
  let v272 : BitVec 32 := Scalar.select v270 v271 v265
  let c1024_i32_247 : BitVec 32 := 1024#32
  let v273 : BitVec 32 := Scalar.muli v272 c1024_i32_247
  let v274 : BitVec 32 := Scalar.addi c4096_i32_248 v273
  let v275 : BitVec 32 := Scalar.addi v274 c0_i32_249
  let c0_i32_263 : BitVec 32 := 0#32
  ![v275.toNat, 0]
def k0_off7 (d0 : Dev nD) (c1_i32_264 : BitVec 32) (c0_i32_273 : BitVec 32) : Fin 2 → Nat :=
  let c4096_i32_272 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v283 : BitVec 32 := Scalar.addi v2 c1_i32_264
  let c4_i32_265 : BitVec 32 := 4#32
  let c0_i32_266 : BitVec 32 := 0#32
  let v284 : BitVec 1 := Scalar.cmpi .eq c4_i32_265 c0_i32_266
  let c1_i32_267 : BitVec 32 := 1#32
  let v285 : BitVec 32 := Scalar.select v284 c1_i32_267 c4_i32_265
  let v286 : BitVec 32 := Scalar.remsi v283 v285
  let c0_i32_269 : BitVec 32 := 0#32
  let v288 : BitVec 1 := Scalar.cmpi .slt v286 c0_i32_269
  let c0_i32_270 : BitVec 32 := 0#32
  let v289 : BitVec 1 := Scalar.cmpi .slt v285 c0_i32_270
  let v290 : BitVec 1 := Scalar.xori v288 v289
  let c0_i32_268 : BitVec 32 := 0#32
  let v287 : BitVec 1 := Scalar.cmpi .ne v286 c0_i32_268
  let v291 : BitVec 1 := Scalar.andi v290 v287
  let v292 : BitVec 32 := Scalar.addi v286 v285
  let v293 : BitVec 32 := Scalar.select v291 v292 v286
  let c1024_i32_271 : BitVec 32 := 1024#32
  let v294 : BitVec 32 := Scalar.muli v293 c1024_i32_271
  let v295 : BitVec 32 := Scalar.addi c4096_i32_272 v294
  let v296 : BitVec 32 := Scalar.addi v295 c0_i32_273
  let v297 : Index := Scalar.indexCast v296
  let c0_274 : Index := 0#32
  ![v297.toNat, 0]
def k0_dev8 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_299 : BitVec 32 := 1#32
  let v320 : BitVec 32 := Scalar.muli v14 c1_i32_299
  let v321 : BitVec 32 := Scalar.addi c0_i32_300 v320
  v321.toNat
def k0_dev9 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_367 : BitVec 32 := 1#32
  let v390 : BitVec 32 := Scalar.muli v25 c1_i32_367
  let v391 : BitVec 32 := Scalar.addi c0_i32_368 v390
  v391.toNat
def k0_dev10 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_432 : BitVec 32 := 1#32
  let v457 : BitVec 32 := Scalar.muli v14 c1_i32_432
  let v458 : BitVec 32 := Scalar.addi c0_i32_433 v457
  v458.toNat
def k0_dev11 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_508 : BitVec 32 := 1#32
  let v535 : BitVec 32 := Scalar.muli v25 c1_i32_508
  let v536 : BitVec 32 := Scalar.addi c0_i32_509 v535
  v536.toNat
def k0_dev12 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_573 : BitVec 32 := 1#32
  let v602 : BitVec 32 := Scalar.muli v14 c1_i32_573
  let v603 : BitVec 32 := Scalar.addi c0_i32_574 v602
  v603.toNat
def k0_dev13 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_641 : BitVec 32 := 1#32
  let v672 : BitVec 32 := Scalar.muli v25 c1_i32_641
  let v673 : BitVec 32 := Scalar.addi c0_i32_642 v672
  v673.toNat
def k0_dev14 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_706 : BitVec 32 := 1#32
  let v739 : BitVec 32 := Scalar.muli v14 c1_i32_706
  let v740 : BitVec 32 := Scalar.addi c0_i32_707 v739
  v740.toNat
def k0_dev15 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_797 : BitVec 32 := 1#32
  let v839 : BitVec 32 := Scalar.muli v25 c1_i32_797
  let v840 : BitVec 32 := Scalar.addi c0_i32_798 v839
  v840.toNat
def k0_dev16 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_876 : BitVec 32 := 1#32
  let v926 : BitVec 32 := Scalar.muli v14 c1_i32_876
  let v927 : BitVec 32 := Scalar.addi c0_i32_877 v926
  v927.toNat
def k0_dev17 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_959 : BitVec 32 := 1#32
  let v1017 : BitVec 32 := Scalar.muli v25 c1_i32_959
  let v1018 : BitVec 32 := Scalar.addi c0_i32_960 v1017
  v1018.toNat
def k0_dev18 (d0 : Dev nD) : Nat :=
  let c0_i32_1039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1038 : BitVec 32 := 1#32
  let v1104 : BitVec 32 := Scalar.muli v14 c1_i32_1038
  let v1105 : BitVec 32 := Scalar.addi c0_i32_1039 v1104
  v1105.toNat
def k0_dev19 (d0 : Dev nD) : Nat :=
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1102 : BitVec 32 := 1#32
  let v1173 : BitVec 32 := Scalar.muli v25 c1_i32_1102
  let v1174 : BitVec 32 := Scalar.addi c0_i32_1103 v1173
  v1174.toNat
def k0_dev20 (d0 : Dev nD) : Nat :=
  let c0_i32_1164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1163 : BitVec 32 := 1#32
  let v1239 : BitVec 32 := Scalar.muli v14 c1_i32_1163
  let v1240 : BitVec 32 := Scalar.addi c0_i32_1164 v1239
  v1240.toNat
def k0_dev21 (d0 : Dev nD) : Nat :=
  let c0_i32_1228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1227 : BitVec 32 := 1#32
  let v1308 : BitVec 32 := Scalar.muli v25 c1_i32_1227
  let v1309 : BitVec 32 := Scalar.addi c0_i32_1228 v1308
  v1309.toNat
def k0_dev22 (d0 : Dev nD) : Nat :=
  let c0_i32_1289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1288 : BitVec 32 := 1#32
  let v1374 : BitVec 32 := Scalar.muli v14 c1_i32_1288
  let v1375 : BitVec 32 := Scalar.addi c0_i32_1289 v1374
  v1375.toNat
def k0_dev23 (d0 : Dev nD) : Nat :=
  let c0_i32_1352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1351 : BitVec 32 := 1#32
  let v1443 : BitVec 32 := Scalar.muli v25 c1_i32_1351
  let v1444 : BitVec 32 := Scalar.addi c0_i32_1352 v1443
  v1444.toNat
def k0_dev24 (d0 : Dev nD) : Nat :=
  let c0_i32_1413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1412 : BitVec 32 := 1#32
  let v1509 : BitVec 32 := Scalar.muli v14 c1_i32_1412
  let v1510 : BitVec 32 := Scalar.addi c0_i32_1413 v1509
  v1510.toNat
def k0_dev25 (d0 : Dev nD) : Nat :=
  let c0_i32_1477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1476 : BitVec 32 := 1#32
  let v1578 : BitVec 32 := Scalar.muli v25 c1_i32_1476
  let v1579 : BitVec 32 := Scalar.addi c0_i32_1477 v1578
  v1579.toNat
def k0_dev26 (d0 : Dev nD) : Nat :=
  let c0_i32_1538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1537 : BitVec 32 := 1#32
  let v1644 : BitVec 32 := Scalar.muli v14 c1_i32_1537
  let v1645 : BitVec 32 := Scalar.addi c0_i32_1538 v1644
  v1645.toNat
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Text.lean ====
/-
# The kernel's text, folded

The ring kernel of the program is one long straight line of operations. Here it is written once more as a short
program: a few parametric operations (a load, a send, a wait on a landing, an accumulation, a store of a block),
each for a lane — a ring direction `d` and a half `t` of a chunk —, run for the four lanes in the order of the text.
`body_eq` says that the printed kernel is this program, by unfolding.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- Programs of the kernel. -/
abbrev PG (F : FTy → Type) [FloatOps F] (α : Type) : Type _ := Prog (TpuEff nD τ sig (Elt F) Λ₀ .tc) α

/-! ## Buffers and their parts -/

/-- The operand, the result, the accumulator and the landing slots, each whole. -/
abbrev xM : Memref sig .tc .hbm S8192x1024 .f32 := Memref.whole main_arg0
abbrev oM : Memref sig .tc .hbm S8192x1024 .f32 := Memref.whole main_v1
abbrev aM : Memref sig .tc .vmem S8192x1024 .f32 := Memref.whole cc0_scratch0
abbrev sM : Memref sig .tc .vmem S2x3x2x512x1024 .f32 := Memref.whole cc0_scratch1

/-- An offset at which a block of 512 rows, or a chunk of 1024, fits. -/
abbrev In512 (o : Fin 2 → ℕ) : Prop := ∀ a, o a + S512x1024.size a ≤ S8192x1024.size a
abbrev In1024 (o : Fin 2 → ℕ) : Prop := ∀ a, o a + S1024x1024.size a ≤ S8192x1024.size a

abbrev rect512 (o : Fin 2 → ℕ) (h : In512 o) : Rect S8192x1024 := Rect.unit (s := S8192x1024) o S512x1024.size h
abbrev rect1024 (o : Fin 2 → ℕ) (h : In1024 o) : Rect S8192x1024 := Rect.unit (s := S8192x1024) o S1024x1024.size h

/-- The block of 512 rows and the chunk of 1024 rows of a buffer at an offset. -/
abbrev sub512 {sp : Space} (M : Memref sig .tc sp S8192x1024 .f32) (o : Fin 2 → ℕ) (h : In512 o) : Memref sig .tc sp S512x1024 .f32 :=
  M.slice (rect512 o h) (fun _ => rfl)
abbrev sub1024 {sp : Space} (M : Memref sig .tc sp S8192x1024 .f32) (o : Fin 2 → ℕ) (h : In1024 o) : Memref sig .tc sp S1024x1024 .f32 :=
  M.slice (rect1024 o h) (fun _ => rfl)

theorem slot_in (d : Fin 2) (h : Fin 3) (t : Fin 2) :
    ∀ a, (![d.val, h.val, t.val, 0, 0] : Fin 5 → ℕ) a + S1x1x1x512x1024.size a ≤ S2x3x2x512x1024.size a := by
  revert d h t; decide
theorem lane_in (d : Fin 2) (h : Fin 6) (t : Fin 2) : ∀ a, (![d.val, h.val, t.val] : Fin 3 → ℕ) a + S1x1x1.size a ≤ S2x6x2.size a := by
  revert d h t; decide
theorem load_in (d : Fin 2) (k : Fin 4) : ∀ a, (![d.val, k.val] : Fin 2 → ℕ) a + S1x1.size a ≤ S2x4.size a := by revert d k; decide
theorem store_in (d : Fin 2) (k : Fin 4) (t : Fin 2) : ∀ a, (![d.val, k.val, t.val] : Fin 3 → ℕ) a + S1x1x1.size a ≤ S2x4x2.size a := by
  revert d k t; decide

/-- The landing slot of hop `h` on lane `(d, t)`: its rectangle in the landing buffer, and as a block. -/
abbrev slotRect (d : Fin 2) (h : Fin 3) (t : Fin 2) : Rect S2x3x2x512x1024 :=
  Rect.unit (s := S2x3x2x512x1024) ![d.val, h.val, t.val, 0, 0] S1x1x1x512x1024.size (slot_in d h t)
abbrev slot (d : Fin 2) (h : Fin 3) (t : Fin 2) : Memref sig .tc .vmem S512x1024 .f32 :=
  (sM.slice (slotRect d h t) (fun _ => rfl)).squeeze S512x1024 squeezes_S1x1x1x512x1024_S512x1024

/-- The semaphores: of a send and of a landing on a lane at a hop, of a load of a chunk, of a store of a block. -/
abbrev sendSem (d : Fin 2) (h : Fin 6) (t : Fin 2) : DmaSem sig :=
  ((cc0_scratch2.slice (Rect.unit (s := S2x6x2) ![d.val, h.val, t.val] S1x1x1.size (lane_in d h t))).squeeze S_ squeezes_S1x1x1_S_).sem
abbrev recvSem (d : Fin 2) (h : Fin 6) (t : Fin 2) : DmaSem sig :=
  ((cc0_scratch3.slice (Rect.unit (s := S2x6x2) ![d.val, h.val, t.val] S1x1x1.size (lane_in d h t))).squeeze S_ squeezes_S1x1x1_S_).sem
abbrev loadSem (d : Fin 2) (k : Fin 4) : DmaSem sig :=
  ((cc0_scratch4.slice (Rect.unit (s := S2x4) ![d.val, k.val] S1x1.size (load_in d k))).squeeze S_ squeezes_S1x1_S_).sem
abbrev storeSem (d : Fin 2) (k : Fin 4) (t : Fin 2) : DmaSem sig :=
  ((cc0_scratch5.slice (Rect.unit (s := S2x4x2) ![d.val, k.val, t.val] S1x1x1.size (store_in d k t))).squeeze S_ squeezes_S1x1x1_S_).sem
/-- The barrier semaphore. -/
abbrev barS : Sem sig := (SemArray.scalar (sig.barrier 0 rfl) : Sems sig S_).sem

/-! ## Addresses as the kernel computes them -/

/-- The device a lane of direction `d` sends to: to the right for `0`, to the left for `1`. -/
def tgt (d : Fin 2) (c : Dev nD) : Dev nD :=
  match d with
  | 0 => ⟨k0_dev2 c, k0_dev2_lt c⟩
  | 1 => ⟨k0_dev1 c, k0_dev1_lt c⟩

/-- The chunk loaded `r + 1` hops up, the block `k` hops up, and the same block as the vector unit addresses it. -/
def offL (d : Fin 2) (c : Dev nD) (r : Fin 3) : Fin 2 → ℕ :=
  match d with
  | 0 => k0_off1 c (BitVec.ofNat 32 (1 + r.val))
  | 1 => k0_off2 c (BitVec.ofNat 32 (1 + r.val))
def offX (d : Fin 2) (c : Dev nD) (t : Fin 2) : Fin 2 → ℕ := k0_off3 c (BitVec.ofNat 32 (4096 * d.val)) (BitVec.ofNat 32 (512 * t.val))
def offB (d : Fin 2) (c : Dev nD) (k : Fin 4) (t : Fin 2) : Fin 2 → ℕ :=
  match d with
  | 0 => k0_off4 c (BitVec.ofNat 32 k.val) (BitVec.ofNat 32 (512 * t.val))
  | 1 => k0_off6 c (BitVec.ofNat 32 k.val) (BitVec.ofNat 32 (512 * t.val))
def offV (d : Fin 2) (c : Dev nD) (r : Fin 3) (t : Fin 2) : Fin 2 → ℕ :=
  match d with
  | 0 => k0_off5 c (BitVec.ofNat 32 (1 + r.val)) (BitVec.ofNat 32 (512 * t.val))
  | 1 => k0_off7 c (BitVec.ofNat 32 (1 + r.val)) (BitVec.ofNat 32 (512 * t.val))

theorem offL_in (d : Fin 2) (c : Dev nD) (r : Fin 3) : In1024 (offL d c r) :=
  match d with
  | 0 => k0_off1_inb c r
  | 1 => k0_off2_inb c r
theorem offX_in (d : Fin 2) (c : Dev nD) (t : Fin 2) : In512 (offX d c t) := k0_off3_inb c d t
theorem offB_in (d : Fin 2) (c : Dev nD) (k : Fin 4) (t : Fin 2) : In512 (offB d c k t) :=
  match d with
  | 0 => k0_off4_inb c k t
  | 1 => k0_off6_inb c k t
theorem offV_in (d : Fin 2) (c : Dev nD) (r : Fin 3) (t : Fin 2) : In512 (offV d c r t) :=
  match d with
  | 0 => k0_off5_inb c r t
  | 1 => k0_off7_inb c r t

/-! ## The operations -/

/-- Start the load of a chunk of the operand into the accumulator. -/
def pLoad (o : Fin 2 → ℕ) (h : In1024 o) (s : DmaSem sig) : PG F PUnit :=
  Prog.lift (.enqueueDma (sub1024 xM o h) (.here (sub1024 aM o h)) (.dma s) (View.wordExact_bits rfl) (View.wordExact_bits rfl) ⟨Or.inl rfl, trivial⟩)
/-- Wait for it. -/
def pLoadWait (o : Fin 2 → ℕ) (h : In1024 o) (s : DmaSem sig) : PG F PUnit :=
  Prog.lift (.waitDma2 s (sub1024 xM o h) (sub1024 aM o h) (View.wordExact_bits rfl) (View.wordExact_bits rfl))
/-- Start a store of a block of the accumulator into the result. -/
def pStore (o : Fin 2 → ℕ) (h : In512 o) (s : DmaSem sig) : PG F PUnit :=
  Prog.lift (.enqueueDma (sub512 aM o h) (.here (sub512 oM o h)) (.dma s) (View.wordExact_bits rfl) (View.wordExact_bits rfl) ⟨Or.inl rfl, trivial⟩)
/-- Wait for it. -/
def pStoreWait (o : Fin 2 → ℕ) (h : In512 o) (s : DmaSem sig) : PG F PUnit :=
  Prog.lift (.waitDma2 s (sub512 aM o h) (sub512 oM o h) (View.wordExact_bits rfl) (View.wordExact_bits rfl))
/-- Send a block of the operand into a slot of device `n`. -/
def pSendX (o : Fin 2 → ℕ) (h : In512 o) (n : Dev nD) (d : Fin 2) (k : Fin 3) (t : Fin 2) (s r : DmaSem sig) : PG F PUnit :=
  Prog.lift (.enqueueDma (sub512 xM o h) (.remote (Dev.tc n) (slot d k t) (.dma s)) (.dma r)
    (View.wordExact_bits rfl) ((View.wordExact_bits rfl).reshape _ _) ⟨⟨rfl, Or.inl rfl⟩, trivial⟩)
/-- Send a block of the accumulator into a slot of device `n`. -/
def pSendS (o : Fin 2 → ℕ) (h : In512 o) (n : Dev nD) (d : Fin 2) (k : Fin 3) (t : Fin 2) (s r : DmaSem sig) : PG F PUnit :=
  Prog.lift (.enqueueDma (sub512 aM o h) (.remote (Dev.tc n) (slot d k t) (.dma s)) (.dma r)
    (View.wordExact_bits rfl) ((View.wordExact_bits rfl).reshape _ _) ⟨⟨rfl, Or.inl rfl⟩, trivial⟩)
/-- Send a block of the accumulator into the same block of device `n`'s. -/
def pSendA (o : Fin 2 → ℕ) (h : In512 o) (n : Dev nD) (s r : DmaSem sig) : PG F PUnit :=
  Prog.lift (.enqueueDma (sub512 aM o h) (.remote (Dev.tc n) (sub512 aM o h) (.dma s)) (.dma r)
    (View.wordExact_bits rfl) (View.wordExact_bits rfl) ⟨⟨rfl, Or.inl rfl⟩, trivial⟩)
/-- Wait for a landing in a slot; for a landing in a block of the accumulator. -/
def pRecvS (o : Fin 2 → ℕ) (h : In512 o) (d : Fin 2) (k : Fin 3) (t : Fin 2) (r : DmaSem sig) : PG F PUnit :=
  Prog.lift (.waitDma2 r (sub512 aM o h) (slot d k t) (View.wordExact_bits rfl) ((View.wordExact_bits rfl).reshape _ _))
def pRecvA (o : Fin 2 → ℕ) (h : In512 o) (r : DmaSem sig) : PG F PUnit :=
  Prog.lift (.waitDma2 r (sub512 aM o h) (sub512 aM o h) (View.wordExact_bits rfl) (View.wordExact_bits rfl))
/-- Wait for a send out of a block of the operand; out of the accumulator, into a slot; into a block. -/
def pSentX (o : Fin 2 → ℕ) (h : In512 o) (d : Fin 2) (k : Fin 3) (t : Fin 2) (s : DmaSem sig) : PG F PUnit :=
  Prog.lift (.waitDma2 s (slot d k t) (sub512 xM o h) ((View.wordExact_bits rfl).reshape _ _) (View.wordExact_bits rfl))
def pSentS (o : Fin 2 → ℕ) (h : In512 o) (d : Fin 2) (k : Fin 3) (t : Fin 2) (s : DmaSem sig) : PG F PUnit :=
  Prog.lift (.waitDma2 s (slot d k t) (sub512 aM o h) ((View.wordExact_bits rfl).reshape _ _) (View.wordExact_bits rfl))
/-- Add a slot into a block of the accumulator. -/
def pAdd (o : Fin 2 → ℕ) (h : In512 o) (d : Fin 2) (k : Fin 3) (t : Fin 2) : PG F PUnit :=
  Prog.lift (.load aM (rect512 o h).toLoadRect (View.loadsAt_vmem h_S512x1024)) >>= fun a =>
  Prog.lift (.load sM (slotRect d k t).toLoadRect (View.loadsAt_vmem h_S1x1x1x512x1024)) >>= fun b =>
  Prog.lift (.load aM (rect512 o h).toLoadRect (View.loadsAt_vmem h_S512x1024)) >>= fun _ =>
  Prog.lift (.store aM (rect512 o h) (k0_pay2 a b) Finset.univ (View.stores_vmem_bits_univ h_S512x1024 rfl) (.inl rfl))

/-! ## The program -/

/-- One piece per lane, in the order of the text: for each half, each direction. -/
def lanes (f : Fin 2 → Fin 2 → PG F PUnit) : PG F PUnit :=
  f 0 0 >>= fun _ => f 1 0 >>= fun _ => f 0 1 >>= fun _ => f 1 1
/-- One piece per direction. -/
def dirs (f : Fin 2 → PG F PUnit) : PG F PUnit := f 0 >>= fun _ => f 1
/-- One piece per half. -/
def halves (f : Fin 2 → PG F PUnit) : PG F PUnit := f 0 >>= fun _ => f 1

/-- The loads of the three chunks of each direction. -/
def gLoads (c : Dev nD) : PG F PUnit :=
  dirs (fun d => pLoad (offL d c 0) (offL_in d c 0) (loadSem d 1)) >>= fun _ =>
  dirs (fun d => pLoad (offL d c 1) (offL_in d c 1) (loadSem d 2)) >>= fun _ =>
  dirs (fun d => pLoad (offL d c 2) (offL_in d c 2) (loadSem d 3))
/-- The handshake with both neighbours. -/
def gBarrier (c : Dev nD) : PG F PUnit :=
  semSignalWord (tgt 1 c) barS 1#32 >>= fun _ => semSignalWord (tgt 0 c) barS 1#32 >>= fun _ => semWaitWord barS 2#32
/-- The waits for the loads of hop `r`. -/
def gLoaded (c : Dev nD) (r : Fin 3) : PG F PUnit :=
  dirs fun d => pLoadWait (offL d c r) (offL_in d c r) (loadSem d r.succ)

/-- The first sends, of the device's own blocks. -/
def gHop0 (c : Dev nD) : PG F PUnit :=
  lanes fun d t => pSendX (offX d c t) (offX_in d c t) (tgt d c) d 0 t (sendSem d 0 t) (recvSem d 0 t)
/-- A hop that accumulates and sends on: hop 0's and 1's landing. -/
def lHop (c : Dev nD) (r : Fin 3) (k : Fin 4) (r' : Fin 3) (h h' : Fin 6) (d t : Fin 2) : PG F PUnit :=
  pRecvS (offB d c k t) (offB_in d c k t) d r t (recvSem d h t) >>= fun _ =>
  pAdd (offV d c r t) (offV_in d c r t) d r t >>= fun _ =>
  pSendS (offB d c k t) (offB_in d c k t) (tgt d c) d r' t (sendSem d h' t) (recvSem d h' t)
/-- The last landing in a slot: the block is then complete, stored and sent around. -/
def lTurn (c : Dev nD) (d t : Fin 2) : PG F PUnit :=
  pRecvS (offB d c 3 t) (offB_in d c 3 t) d 2 t (recvSem d 2 t) >>= fun _ =>
  pAdd (offV d c 2 t) (offV_in d c 2 t) d 2 t >>= fun _ =>
  pStore (offB d c 3 t) (offB_in d c 3 t) (storeSem d 3 t) >>= fun _ =>
  pSendA (offB d c 3 t) (offB_in d c 3 t) (tgt d c) (sendSem d 3 t) (recvSem d 3 t)
/-- A complete block arrives, is stored and passed on. -/
def lPass (c : Dev nD) (k : Fin 4) (h h' : Fin 6) (d t : Fin 2) : PG F PUnit :=
  pRecvA (offB d c k t) (offB_in d c k t) (recvSem d h t) >>= fun _ =>
  pStore (offB d c k t) (offB_in d c k t) (storeSem d k t) >>= fun _ =>
  pSendA (offB d c k t) (offB_in d c k t) (tgt d c) (sendSem d h' t) (recvSem d h' t)
/-- The last complete block arrives and is stored. -/
def lLast (c : Dev nD) (d t : Fin 2) : PG F PUnit :=
  pRecvA (offB d c 2 t) (offB_in d c 2 t) (recvSem d 5 t) >>= fun _ =>
  pStore (offB d c 2 t) (offB_in d c 2 t) (storeSem d 2 t)

/-- The waits for the stores. -/
def lStored (c : Dev nD) (d : Fin 2) (k : Fin 4) : PG F PUnit :=
  halves fun t => pStoreWait (offB d c k t) (offB_in d c k t) (storeSem d k t)
def gStored (c : Dev nD) : PG F PUnit :=
  dirs fun d => lStored c d 0 >>= fun _ => lStored c d 1 >>= fun _ => lStored c d 2 >>= fun _ => lStored c d 3
/-- The waits for the sends. -/
def gSent (c : Dev nD) : PG F PUnit :=
  lanes (fun d t => pSentX (offX d c t) (offX_in d c t) d 0 t (sendSem d 0 t)) >>= fun _ =>
  lanes (fun d t => pSentS (offB d c 1 t) (offB_in d c 1 t) d 1 t (sendSem d 1 t)) >>= fun _ =>
  lanes (fun d t => pSentS (offB d c 2 t) (offB_in d c 2 t) d 2 t (sendSem d 2 t)) >>= fun _ =>
  lanes (fun d t => pRecvA (offB d c 3 t) (offB_in d c 3 t) (sendSem d 3 t)) >>= fun _ =>
  lanes (fun d t => pRecvA (offB d c 0 t) (offB_in d c 0 t) (sendSem d 4 t)) >>= fun _ =>
  lanes (fun d t => pRecvA (offB d c 1 t) (offB_in d c 1 t) (sendSem d 5 t))

/-- The kernel on device `c`. -/
def kern (c : Dev nD) : PG F PUnit :=
  gLoads c >>= fun _ => gBarrier c >>= fun _ => gHop0 c >>= fun _ =>
  gLoaded c 0 >>= fun _ => lanes (lHop c 0 1 1 0 1) >>= fun _ =>
  gLoaded c 1 >>= fun _ => lanes (lHop c 1 2 2 1 2) >>= fun _ =>
  gLoaded c 2 >>= fun _ => lanes (lTurn c) >>= fun _ =>
  lanes (lPass c 0 3 4) >>= fun _ => lanes (lPass c 1 4 5) >>= fun _ => lanes (lLast c) >>= fun _ =>
  gStored c >>= fun _ => gSent c

set_option maxRecDepth 100000 in
/-- The printed kernel is the folded one. -/
theorem body_eq (t : Fin cfg0.N) : bodyAt0 (F := F) t = Prog.lift .deviceId >>= kern := by
  chain_rfl

end Cert.AllReduce

end
-- ==== Proof.Cells.lean ====
/-
# The protocol

Four devices on a ring. For the direction `d = 0` the ring runs to the right, for `d = 1` to the left; in either,
`ups d c k` is the device `k` hops up the stream from `c`. A chunk of 1024 rows of either half of the array is named
by the device `q` whose sum starts it; a block is a half `t` of a chunk. In hops 0, 1 and 2 a partial sum travels down
the stream and every device adds its own block; in hops 3, 4 and 5 the complete block travels on.

A semaphore's cell has one round. What its landing hands over is the payload below: for a landing on a lane, the
contents that arrive, the block of the sender that the transfer read (hops 1 and 2: nobody waits for that send before
the block is written again, so the landing itself gives it on), and the blocks upstream that a later hop writes.
-/
module

public import proofs.«01_k».proof.Proof.Text

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device `k` hops up the stream of direction `d` from `c`. -/
def ups (d : Fin 2) (c : Dev nD) (k : Fin 4) : Dev nD :=
  ⟨(c.val + (if d = 0 then 4 - k.val else k.val)) % 4, Nat.mod_lt _ (by decide)⟩
/-- The neighbours up and down the stream. -/
abbrev inn (d : Fin 2) (c : Dev nD) : Dev nD := ups d c 1
abbrev out (d : Fin 2) (c : Dev nD) : Dev nD := ups d c 3

theorem ups_zero (d : Fin 2) (c : Dev nD) : ups d c 0 = c := by revert d c; decide
theorem ups_ups (d : Fin 2) (c : Dev nD) (j k : Fin 4) : ups d (ups d c j) k = ups d c (j + k) := by revert d c j k; decide
theorem ups_rev (c : Dev nD) : ups 1 c 1 = ups 0 c 3 := by revert c; decide
theorem ups_rev' (c : Dev nD) : ups 0 c 1 = ups 1 c 3 := by revert c; decide

/-- The offset of a block and of a chunk. -/
def bo (d : Fin 2) (q : Dev nD) (t : Fin 2) : Fin 2 → ℕ := ![4096 * d.val + 1024 * q.val + 512 * t.val, 0]
def co (d : Fin 2) (q : Dev nD) : Fin 2 → ℕ := ![4096 * d.val + 1024 * q.val, 0]

theorem bo_in (d : Fin 2) (q : Dev nD) (t : Fin 2) : In512 (bo d q t) := by revert d q t; decide
theorem co_in (d : Fin 2) (q : Dev nD) : In1024 (co d q) := by revert d q; decide

/-! The addresses the kernel computes are these. -/

theorem tgt_eq (d : Fin 2) (c : Dev nD) : tgt d c = out d c := by revert d c; decide +kernel
theorem offL_eq (d : Fin 2) (c : Dev nD) (r : Fin 3) : offL d c r = co d (ups d c r.succ) := by revert d c r; decide +kernel
theorem offX_eq (d : Fin 2) (c : Dev nD) (t : Fin 2) : offX d c t = bo d (ups d c 0) t := by revert d c t; decide +kernel
theorem offB_eq (d : Fin 2) (c : Dev nD) (k : Fin 4) (t : Fin 2) : offB d c k t = bo d (ups d c k) t := by revert d c k t; decide +kernel
theorem offV_eq (d : Fin 2) (c : Dev nD) (r : Fin 3) (t : Fin 2) : offV d c r t = bo d (ups d c r.succ) t := by
  revert d c r t; decide +kernel

/-! ## The contents -/

section Values

variable (m : (ℓ : Loc nD τ sig) → Buf (Elt F) ℓ)

/-- Contents of a block. -/
abbrev BV (F : FTy → Type) : Type := S512x1024.Idx → Elt F .f32

/-- Device `c`'s operand, a block and a chunk of it. -/
def xAt (c : Dev nD) : S8192x1024.Idx → Elt F .f32 := m ((c : Thread nD τ).loc main_arg0)
def blkX (c : Dev nD) (d : Fin 2) (q : Dev nD) (t : Fin 2) : BV F := fun j => xAt m c ((rect512 (bo d q t) (bo_in d q t)).emb j)
def chkX (c : Dev nD) (d : Fin 2) (q : Dev nD) : S1024x1024.Idx → Elt F .f32 := fun j => xAt m c ((rect1024 (co d q) (co_in d q)).emb j)

/-- The partial sum on lane `(d, t)` that device `c` sends on after `n` additions: its own block at first, then its
    block of the chunk `n` hops up plus what came in. -/
def part (d t : Fin 2) : ℕ → Dev nD → BV F
  | 0, c => blkX m c d (ups d c 0) t
  | n + 1, c => addf (blkX m c d (ups d c (Fin.ofNat 4 (n + 1))) t) (part d t n (inn d c))

/-- The complete block of chunk `q`: what the device before `q` in the stream has after three additions. -/
def full (d : Fin 2) (q : Dev nD) (t : Fin 2) : BV F := part m d t 3 (inn d q)

end Values

/-! ## The resource algebra -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Owned blocks -/

/-- Device `c` holds block `(d, q, t)` of a buffer at contents `X`; at some contents; a chunk; a landing slot. -/
def blkAt {sp : Space} (M : Memref sig .tc sp S8192x1024 .f32) (c : Dev nD) (d : Fin 2) (q : Dev nD) (t : Fin 2)
    (π : PosShare TreeShare) (X : BV F) : sProp 𝕄 := ownsTc c (sub512 M (bo d q t) (bo_in d q t)) π X
def blkAny {sp : Space} (M : Memref sig .tc sp S8192x1024 .f32) (c : Dev nD) (d : Fin 2) (q : Dev nD) (t : Fin 2) : sProp 𝕄 :=
  iprop(∃ X : BV F, blkAt M c d q t fullShare X)
def chkAt {sp : Space} (M : Memref sig .tc sp S8192x1024 .f32) (c : Dev nD) (d : Fin 2) (q : Dev nD)
    (X : S1024x1024.Idx → Elt F .f32) : sProp 𝕄 := ownsTc c (sub1024 M (co d q) (co_in d q)) fullShare X
def chkAny {sp : Space} (M : Memref sig .tc sp S8192x1024 .f32) (c : Dev nD) (d : Fin 2) (q : Dev nD) : sProp 𝕄 :=
  iprop(∃ X : S1024x1024.Idx → Elt F .f32, chkAt M c d q X)
def slotAt (c : Dev nD) (d : Fin 2) (h : Fin 3) (t : Fin 2) (X : BV F) : sProp 𝕄 := ownsTc c (slot d h t) fullShare X
def slotAny (c : Dev nD) (d : Fin 2) (h : Fin 3) (t : Fin 2) : sProp 𝕄 := iprop(∃ X : BV F, slotAt c d h t X)

omit [FloatOps F] in
instance blkAt_storable {sp : Space} (M : Memref sig .tc sp S8192x1024 .f32) (c : Dev nD) (d : Fin 2) (q : Dev nD) (t : Fin 2)
    (π : PosShare TreeShare) (X : BV F) : BI.Storable (upEmb : UEmb _ 𝕄) (blkAt M c d q t π X) := by unfold blkAt; infer_instance
omit [FloatOps F] in
instance blkAny_storable {sp : Space} (M : Memref sig .tc sp S8192x1024 .f32) (c : Dev nD) (d : Fin 2) (q : Dev nD) (t : Fin 2) :
    BI.Storable (upEmb : UEmb _ 𝕄) (blkAny (F := F) M c d q t) := by unfold blkAny; infer_instance
omit [FloatOps F] in
instance chkAt_storable {sp : Space} (M : Memref sig .tc sp S8192x1024 .f32) (c : Dev nD) (d : Fin 2) (q : Dev nD)
    (X : S1024x1024.Idx → Elt F .f32) : BI.Storable (upEmb : UEmb _ 𝕄) (chkAt M c d q X) := by unfold chkAt; infer_instance
omit [FloatOps F] in
instance slotAt_storable (c : Dev nD) (d : Fin 2) (h : Fin 3) (t : Fin 2) (X : BV F) :
    BI.Storable (upEmb : UEmb _ 𝕄) (slotAt c d h t X) := by unfold slotAt; infer_instance
omit [FloatOps F] in
instance slotAny_storable (c : Dev nD) (d : Fin 2) (h : Fin 3) (t : Fin 2) :
    BI.Storable (upEmb : UEmb _ 𝕄) (slotAny (F := F) c d h t) := by unfold slotAny; infer_instance

/-! ## The cells -/

abbrev Lane : Type := Fin 2 × Fin 2
/-- The kernel's own cells: sends, landings, loads, stores. -/
abbrev Ch : Type := (Fin 6 × Lane) ⊕ (Fin 6 × Lane) ⊕ (Fin 4 × Fin 2) ⊕ (Fin 4 × Lane)

abbrev chSend (h : Fin 6) (d t : Fin 2) : Ch := .inl (h, d, t)
abbrev chRecv (h : Fin 6) (d t : Fin 2) : Ch := .inr (.inl (h, d, t))
abbrev chLoad (k : Fin 4) (d : Fin 2) : Ch := .inr (.inr (.inl (k, d)))
abbrev chStore (k : Fin 4) (d t : Fin 2) : Ch := .inr (.inr (.inr (k, d, t)))

def dsem : Ch → DmaSem sig
  | .inl (h, d, t) => sendSem d h t
  | .inr (.inl (h, d, t)) => recvSem d h t
  | .inr (.inr (.inl (k, d))) => loadSem d k
  | .inr (.inr (.inr (k, d, t))) => storeSem d k t
def osem (i : Ch) : SemLoc sig := .dma (dsem i)
/-- All cells of a device: the barrier's and its own. -/
def csem : Option Ch → SemLoc sig
  | none => .reg barS
  | some i => osem i

abbrev cell (c : Dev nD) (i : Option Ch) : GSem nD τ sig := ((c : Thread nD τ), csem i)
abbrev ocell (c : Dev nD) (i : Ch) : GSem nD τ sig := cell c (some i)

/-! ### They are distinct -/

/-- The number of a cell's semaphore. -/
def semNo : Ch → ℕ
  | .inl (h, d, t) => 12 * d.val + 2 * h.val + t.val
  | .inr (.inl (h, d, t)) => 24 + 12 * d.val + 2 * h.val + t.val
  | .inr (.inr (.inl (k, d))) => 48 + 4 * d.val + k.val
  | .inr (.inr (.inr (k, d, t))) => 56 + 8 * d.val + 2 * k.val + t.val

theorem send_no (h : Fin 6) (d t : Fin 2) : (sendSem d h t).val = semNo (chSend h d t) := by revert h d t; decide +kernel
theorem recv_no (h : Fin 6) (d t : Fin 2) : (recvSem d h t).val = semNo (chRecv h d t) := by revert h d t; decide +kernel
theorem load_no (k : Fin 4) (d : Fin 2) : (loadSem d k).val = semNo (chLoad k d) := by revert k d; decide +kernel
theorem store_no (k : Fin 4) (d t : Fin 2) : (storeSem d k t).val = semNo (chStore k d t) := by revert k d t; decide +kernel
theorem dsem_no : (i : Ch) → (dsem i).val = semNo i
  | .inl (h, d, t) => send_no h d t
  | .inr (.inl (h, d, t)) => recv_no h d t
  | .inr (.inr (.inl (k, d))) => load_no k d
  | .inr (.inr (.inr (k, d, t))) => store_no k d t
theorem semNo_inj : (i j : Ch) → semNo i = semNo j → i = j := by
  rintro (⟨h, d, t⟩ | ⟨h, d, t⟩ | ⟨k, d⟩ | ⟨k, d, t⟩) (⟨h', d', t'⟩ | ⟨h', d', t'⟩ | ⟨k', d'⟩ | ⟨k', d', t'⟩) e <;>
    simp only [semNo] at e <;>
    first
    | (exfalso; omega)
    | (congr 2 <;> (try congr 1) <;> (try congr 1) <;> (try congr 1) <;> apply Fin.ext <;> omega)
theorem osem_inj : Function.Injective osem := fun i j h =>
  semNo_inj i j (by rw [← dsem_no, ← dsem_no]; exact congrArg Fin.val (SemLoc.dma.inj h))

end Cert.AllReduce

end
-- ==== Proof.Sched.lean ====
/-
# The schedule

Every cell has one round. Its duties, the amount of each, and the contents it hands over; what each device owes at
launch, and the levels by which no wait can be part of a circle.
-/
module

public import proofs.«01_k».proof.Proof.Cells

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Distinct cells -/

theorem csem_inj : Function.Injective csem
  | none, none, _ => rfl
  | some i, some j, h => congrArg some (osem_inj h)
  | none, some i, h => nomatch (show SemLoc.reg barS = SemLoc.dma (dsem i) from h)
  | some i, none, h => nomatch (show SemLoc.dma (dsem i) = SemLoc.reg barS from h)

open Classical in
/-- Which cell of a device a semaphore is. -/
def which (s : SemLoc sig) : Option (Option Ch) := if h : ∃ i, csem i = s then some h.choose else none
theorem which_csem (i : Option Ch) : which (csem i) = some i := by
  have h : ∃ j, csem j = csem i := ⟨i, rfl⟩
  unfold which
  rw [dif_pos h, csem_inj h.choose_spec]
theorem cell_inj {c c' : Dev nD} {i i' : Option Ch} (h : cell c i = cell c' i') : c = c' ∧ i = i' :=
  ⟨congrArg (fun g : GSem nD τ sig => g.1.1) h, csem_inj (congrArg (fun g : GSem nD τ sig => g.2) h)⟩

/-! ## The schedule -/

/-- The credit of a block and of a chunk. -/
@[irreducible] def NB : ℕ := (sub512 aM (bo 0 0 0) (bo_in 0 0 0)).view.dmaCredit
@[irreducible] def NC : ℕ := (sub1024 aM (co 0 0) (co_in 0 0)).view.dmaCredit
theorem NB_pos : 0 < NB := by unfold NB; exact View.dmaCredit_pos _ (Shape.numel_pos (by decide))
theorem NC_pos : 0 < NC := by unfold NC; exact View.dmaCredit_pos _ (Shape.numel_pos (by decide))

theorem credit_slot (d : Fin 2) (h : Fin 3) (t : Fin 2) : (slot d h t).view.dmaCredit = NB := by unfold NB; rfl
theorem credit_a (o : Fin 2 → ℕ) (h : In512 o) : (sub512 aM o h).view.dmaCredit = NB := by unfold NB; rfl
theorem credit_o (o : Fin 2 → ℕ) (h : In512 o) : (sub512 oM o h).view.dmaCredit = NB := by unfold NB; rfl
theorem credit_x (o : Fin 2 → ℕ) (h : In512 o) : (sub512 xM o h).view.dmaCredit = NB := by unfold NB; rfl
theorem credit_c (o : Fin 2 → ℕ) (h : In1024 o) : (sub1024 aM o h).view.dmaCredit = NC := by unfold NC; rfl

/-- The duties of a cell's round: the two neighbours' at the barrier, else one; the load of a device's own chunk does
    not take place. -/
def dut : Option Ch → Finset (Fin 2)
  | none => Finset.univ
  | some (.inr (.inr (.inl (k, _)))) => if k = 0 then ∅ else {0}
  | some _ => {0}
def amt : Option Ch → ℕ
  | none => 1
  | some (.inr (.inr (.inl _))) => NC
  | some _ => NB
theorem amt_pos : (i : Option Ch) → 0 < amt i
  | none => Nat.one_pos
  | some (.inl _) => NB_pos
  | some (.inr (.inl _)) => NB_pos
  | some (.inr (.inr (.inl _))) => NC_pos
  | some (.inr (.inr (.inr _))) => NB_pos

section Payloads

variable (m : (ℓ : Loc nD τ sig) → Buf (Elt F) ℓ)

/-- What a device `n` gives its upstream neighbour before the first send on lane `(d, t)`: its landing slots and the
    block of its accumulator that the first complete block goes to. -/
def lanePay (n : Dev nD) (d t : Fin 2) : sProp 𝕄 :=
  iprop(slotAny n d 0 t ∗ slotAny n d 1 t ∗ slotAny n d 2 t ∗ blkAny aM n d (ups d n 0) t)
def barPay (c : Dev nD) (d : Fin 2) : sProp 𝕄 := iprop(lanePay (out d c) d 0 ∗ lanePay (out d c) d 1)

/-- A landing at `c` on lane `(d, t)` at hop `h`. -/
def recvPay (c : Dev nD) (d t : Fin 2) : Fin 6 → sProp 𝕄
  | 0 => slotAt c d 0 t (part m d t 0 (inn d c))
  | 1 => iprop(slotAt c d 1 t (part m d t 1 (inn d c)) ∗ blkAny aM (ups d c 1) d (ups d c 2) t)
  | 2 => iprop(slotAt c d 2 t (part m d t 2 (inn d c)) ∗ blkAny aM (ups d c 1) d (ups d c 3) t ∗ blkAny aM (ups d c 2) d (ups d c 3) t)
  | 3 => iprop(blkAt aM c d (ups d c 0) t fullShare (full m d (ups d c 0) t)
      ∗ blkAny aM (ups d c 2) d (ups d c 0) t ∗ blkAny aM (ups d c 3) d (ups d c 0) t)
  | 4 => iprop(blkAt aM c d (ups d c 1) t fullShare (full m d (ups d c 1) t) ∗ blkAny aM (ups d c 3) d (ups d c 1) t)
  | 5 => blkAt aM c d (ups d c 2) t fullShare (full m d (ups d c 2) t)

/-- A send of `c`'s, its source read. -/
def sendPay (c : Dev nD) (d t : Fin 2) : Fin 6 → sProp 𝕄
  | 0 => blkAt xM c d (ups d c 0) t fullShare (blkX m c d (ups d c 0) t)
  | 1 => iprop(emp)
  | 2 => iprop(emp)
  | 3 => blkAt aM c d (ups d c 3) t fullShare.right (full m d (ups d c 3) t)
  | 4 => blkAt aM c d (ups d c 0) t fullShare.right (full m d (ups d c 0) t)
  | 5 => blkAt aM c d (ups d c 1) t fullShare.right (full m d (ups d c 1) t)

/-- The share of an accumulator block that its store reads: half where a send reads the other half. -/
def stShare (k : Fin 4) : PosShare TreeShare := if k = 2 then fullShare else fullShare.left

/-- A store of `c`'s. -/
def storePay (c : Dev nD) (d t : Fin 2) (k : Fin 4) : sProp 𝕄 :=
  iprop(blkAt oM c d (ups d c k) t fullShare (full m d (ups d c k) t) ∗ blkAt aM c d (ups d c k) t (stShare k) (full m d (ups d c k) t))

/-- A load of `c`'s. -/
def loadPay (c : Dev nD) (d : Fin 2) (k : Fin 4) : sProp 𝕄 :=
  iprop(chkAt aM c d (ups d c k) (chkX m c d (ups d c k)) ∗ chkAt xM c d (ups d c k) (chkX m c d (ups d c k)))

def pay (c : Dev nD) : Option Ch → Fin 2 → sProp 𝕄
  | none, d => barPay c d
  | some (.inl (h, d, t)), _ => sendPay m c d t h
  | some (.inr (.inl (h, d, t))), _ => recvPay m c d t h
  | some (.inr (.inr (.inl (k, d)))), _ => loadPay m c d k
  | some (.inr (.inr (.inr (k, d, t)))), _ => storePay m c d t k

instance recvPay_storable (c : Dev nD) (d t : Fin 2) : (h : Fin 6) → BI.Storable (upEmb : UEmb _ 𝕄) (recvPay m c d t h)
  | 0 => by unfold recvPay; infer_instance
  | 1 => by unfold recvPay; infer_instance
  | 2 => by unfold recvPay; infer_instance
  | 3 => by unfold recvPay; infer_instance
  | 4 => by unfold recvPay; infer_instance
  | 5 => by unfold recvPay; infer_instance
instance sendPay_storable (c : Dev nD) (d t : Fin 2) : (h : Fin 6) → BI.Storable (upEmb : UEmb _ 𝕄) (sendPay m c d t h)
  | 0 => by unfold sendPay; infer_instance
  | 1 => by unfold sendPay; infer_instance
  | 2 => by unfold sendPay; infer_instance
  | 3 => by unfold sendPay; infer_instance
  | 4 => by unfold sendPay; infer_instance
  | 5 => by unfold sendPay; infer_instance
instance pay_storable (c : Dev nD) : (i : Option Ch) → (d : Fin 2) → BI.Storable (upEmb : UEmb _ 𝕄) (pay m c i d)
  | none, d => by unfold pay barPay lanePay; infer_instance
  | some (.inl (h, d, t)), _ => by unfold pay; infer_instance
  | some (.inr (.inl (h, d, t))), _ => by unfold pay; infer_instance
  | some (.inr (.inr (.inl (k, d)))), _ => by unfold pay loadPay; infer_instance
  | some (.inr (.inr (.inr (k, d, t)))), _ => by unfold pay storePay; infer_instance

/-- The schedule: round 0 only. -/
def rd : Rounds.Schedule (GSem nD τ sig) (Fin 2) 𝕄 where
  duties g r := if r = 0 ∧ g.1.2 = .tc then (which g.2).elim ∅ dut else ∅
  unitless _ := False
  amount g _ _ := (which g.2).elim 1 amt
  payload g _ d := (which g.2).elim iprop(emp) fun i => pay m g.1.1 i d
  amount_pos g _ _ _ := by
    cases which g.2 with
    | none => exact Nat.one_pos
    | some i => exact amt_pos i

instance rd_payload_storable (g : GSem nD τ sig) (r : ℕ) (d : Fin 2) : BI.Storable (upEmb : UEmb _ 𝕄) ((rd (F := F) m).payload g r d) := by
  show BI.Storable upEmb ((which g.2).elim iprop(emp) fun i => pay m g.1.1 i d)
  cases which g.2 with
  | none => show BI.Storable upEmb iprop(emp); infer_instance
  | some i => show BI.Storable upEmb (pay m g.1.1 i d); infer_instance

variable (c : Dev nD) (i : Option Ch)

theorem duties_cell : (rd (F := F) m).duties (cell c i) 0 = dut i := by
  show (if 0 = 0 ∧ (c : Thread nD τ).2 = .tc then (which (csem i)).elim ∅ dut else ∅) = dut i
  rw [which_csem]; exact if_pos ⟨rfl, rfl⟩
theorem duties_later (g : GSem nD τ sig) : ∀ r, 1 ≤ r → (rd (F := F) m).duties g r = ∅ :=
  fun r hr => if_neg fun h => by omega
theorem amount_cell (d : Fin 2) : (rd (F := F) m).amount (cell c i) 0 d = amt i := by
  show (which (csem i)).elim 1 amt = amt i
  rw [which_csem]; rfl
theorem payload_cell (d : Fin 2) : (rd (F := F) m).payload (cell c i) 0 d = pay m c i d := by
  show ((which (csem i)).elim iprop(emp) fun i => pay m c i d) = pay m c i d
  rw [which_csem]; rfl
theorem expect_cell : (rd (F := F) m).expect (cell c i) 0 = (dut i).card * amt i := by
  unfold Schedule.expect Schedule.amountOf
  rw [duties_cell, Finset.sum_congr rfl fun d _ => amount_cell m c i d, Finset.sum_const, smul_eq_mul]
/-- Everything a cell hands over, where it has one duty; at the barrier. -/
theorem rest_cell (h : dut i = {0}) :
    bigSep ((rd (F := F) m).duties (cell c i) 0 \ ∅) (fun d => (rd (F := F) m).payload (cell c i) 0 d) = pay m c i 0 := by
  rw [Finset.sdiff_empty, duties_cell, h, bigSep_singleton, payload_cell]
theorem rest_bar : bigSep ((rd (F := F) m).duties (cell c none) 0 \ ∅) (fun d => (rd (F := F) m).payload (cell c none) 0 d)
    = iprop(barPay c 0 ∗ barPay c 1) := by
  rw [Finset.sdiff_empty, duties_cell]
  show bigSep Finset.univ _ = _
  rw [bigSep_fin_two, payload_cell, payload_cell]; rfl

end Payloads

/-! ## What a device owes; the levels -/

abbrev Hop : Type := Fin 6 × Lane
/-- The sends of a hop in the order of the text, and of all hops from `h` on. -/
def lanesOf (h : Fin 6) : List Hop := [(h, 0, 0), (h, 1, 0), (h, 0, 1), (h, 1, 1)]
def hopsFrom (n : ℕ) : List Hop := (([0, 1, 2, 3, 4, 5] : List (Fin 6)).drop n).flatMap lanesOf

/-- What device `c` owes for the sends of a list: each its landing's credit. -/
def owed (c : Dev nD) : List Hop → CellTallies nD τ sig Unit
  | [] => 0
  | a :: l => owed c l + tallyAt (ocell (out a.2.1 c) (chRecv a.1 a.2.1 a.2.2)) () NB

/-- At launch a device owes all its sends and a unit at each neighbour's barrier. -/
def O₁ (c : Dev nD) : CellTallies nD τ sig Unit := owed c (hopsFrom 0) + tallyAt (cell (inn 1 c) none) () 1
def O₀ (c : Dev nD) : CellTallies nD τ sig Unit := O₁ c + tallyAt (cell (inn 0 c) none) () 1

def lev : Option Ch → ℕ
  | none => 1
  | some (.inr (.inl (h, _))) => 2 + h.val
  | some _ => 0
def L (g : GSem nD τ sig) : Finset Unit := if g.1.2 = .tc then {()} else ∅
def lv (g : GSem nD τ sig) (_ : Unit) : ℕ := (which g.2).elim 0 lev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Option Ch) (u : Unit) : lv (cell c i) u = lev i := by
  show (which (csem i)).elim 0 lev = lev i
  rw [which_csem]; rfl

theorem tally_pos {g g' : GSem nD τ sig} {u u' : Unit} {n : ℕ} (h : 0 < tallyAt g u n g' u') : g' = g := by
  rw [tallyAt_apply] at h
  by_contra hn
  rw [if_neg fun h' => hn h'.1] at h
  exact Nat.lt_irrefl 0 h

theorem owed_pos {c : Dev nD} {g : GSem nD τ sig} {u : Unit} : {l : List Hop} → 0 < owed c l g u →
    ∃ a ∈ l, g = ocell (out a.2.1 c) (chRecv a.1 a.2.1 a.2.2)
  | [], h => absurd h (Nat.lt_irrefl 0)
  | a :: l, h => by
    unfold owed at h
    rw [Pi.add_apply, Finsupp.add_apply] at h
    rcases Nat.pos_of_ne_zero (Nat.pos_iff_ne_zero.mp h) |> fun h => (Nat.add_pos_iff_pos_or_pos.mp h) with h | h
    · obtain ⟨b, hb, e⟩ := owed_pos h
      exact ⟨b, List.mem_cons_of_mem _ hb, e⟩
    · exact ⟨a, List.mem_cons_self, tally_pos h⟩

theorem O₀_pos {c : Dev nD} {g : GSem nD τ sig} {u : Unit} (h : 0 < O₀ c g u) :
    (∃ a ∈ hopsFrom 0, g = ocell (out a.2.1 c) (chRecv a.1 a.2.1 a.2.2)) ∨ ∃ c', g = cell c' none := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact .inl (owed_pos h)
    · exact .inr ⟨_, tally_pos h⟩
  · exact .inr ⟨_, tally_pos h⟩

/-- A wait at a cell is below the landings a device still owes. -/
theorem mayWait (c : Dev nD) (i : Option Ch) (l : List Hop) (h : ∀ a ∈ l, lev i < 2 + a.1.val) :
    (levAts L lv : sProp 𝕄) ⊢ MayWait (c : Thread nD τ) (csem i) () (owed c l) :=
  MayOwe.of_cut (L := L) (lev := lv) (lev i) (fun p hp => by rw [Finset.mem_singleton.mp hp, L_tc]; exact Finset.mem_singleton_self _)
    (fun g u hg => by obtain ⟨a, -, rfl⟩ := owed_pos hg; exact Finset.mem_singleton_self _)
    (fun p hp => by rw [Finset.mem_singleton.mp hp]; exact (lv_cell c i ()).le)
    (fun g u hg => by obtain ⟨a, ha, rfl⟩ := owed_pos hg; rw [lv_cell]; exact h a ha)

end Cert.AllReduce

end
-- ==== Proof.Steps.lean ====
/-
# Steps

What one operation of the kernel does to the cells and the blocks: a local copy, a send, a wait, an addition. The
triples carry the persistent records — every cell's invariant, that its round is reached, the levels — unchanged.
-/
module

public import proofs.«01_k».proof.Proof.Sched
public import Idealize.ShloMosaic.Lib.Pipeline.Kit
public import Idealize.ShloMosaic.Lib.Tactic

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

section

variable (m : (ℓ : Loc nD τ sig) → Buf (Elt F) ℓ) (K : Dev nD × Option Ch → ℕ) (c : Dev nD)

/-! ## Records -/

instance decLane : DecidableEq Lane := inferInstance
instance decHop : DecidableEq (Fin 6 × Lane) := inferInstance
instance decSt : DecidableEq ((Fin 4 × Fin 2) ⊕ (Fin 4 × Lane)) := inferInstance
instance decCh : DecidableEq Ch := inferInstance
instance decCells : DecidableEq (Dev nD × Option Ch) := inferInstance

/-- Every cell's invariant, its round reached, and the levels. -/
def records : sProp 𝕄 :=
  iprop((bigSep Finset.univ fun p : Dev nD × Option Ch => cellInv ER (rd m) (K p) (cell p.1 p.2))
    ∗ (bigSep Finset.univ fun p : Dev nD × Option Ch => reached ER (cell p.1 p.2) 0) ∗ levAts L lv)

instance records_persistent : BI.Persistent (records (F := F) m K) := by unfold records; infer_instance

theorem one_of (Φ : Dev nD × Option Ch → sProp 𝕄) (n : Dev nD) (i : Option Ch) : bigSep Finset.univ Φ ⊢ Φ (n, i) :=
  bigSep_elim (Finset.mem_univ (n, i))
theorem records_inv (n : Dev nD) (i : Option Ch) : records (F := F) m K ⊢ cellInv ER (rd m) (K (n, i)) (cell n i) := by
  unfold records
  iintro ⟨#H, -, -⟩
  iapply (one_of (fun p : Dev nD × Option Ch => cellInv ER (rd m) (K p) (cell p.1 p.2)) n i)
  iexact H
theorem records_reached (n : Dev nD) (i : Option Ch) : records (F := F) m K ⊢ reached ER (cell n i) 0 := by
  unfold records
  iintro ⟨-, #H, -⟩
  iapply (one_of (F := F) (fun p : Dev nD × Option Ch => reached ER (cell p.1 p.2) 0) n i)
  iexact H
theorem records_lev : records (F := F) m K ⊢ levAts L lv := by
  unfold records
  iintro ⟨-, -, #H⟩
  iexact H

/-! ## Triples -/

/-- With the records at hand, `p` on device `c` takes `A` to `B`. -/
def Tr (A : sProp 𝕄) (p : PG F PUnit) (B : sProp 𝕄) : Prop :=
  iprop(records m K ∗ A) ⊢ wp frame (wpE (defs₀ (F := F)) 𝒱₀ (c : Thread nD τ) none) Set.univ p (fun _ => B)

end

section

variable {m : (ℓ : Loc nD τ sig) → Buf (Elt F) ℓ} {K : Dev nD × Option Ch → ℕ} {c : Dev nD}
variable {A A' B B' C R : sProp (MT nD τ sig Unit (Elt F) ℕ UU ℕ)} {p q : PG F PUnit}

theorem Tr.seq (h : Tr m K c A p B) (h' : Tr m K c B q C) : Tr m K c A (p >>= fun _ => q) C := by
  unfold Tr at *
  rw [wp_bind]
  iintro ⟨#HR, HA⟩
  ihave Hp := h $$ [HA]
  · isplitr; · iexact HR
    iexact HA
  iapply (wp_wand _ _ _ (p := p)) $$ Hp
  iintro %a HB
  iapply h'
  isplitr; · iexact HR
  iexact HB

theorem Tr.frame (h : Tr m K c A p B) : Tr m K c iprop(A ∗ R) p iprop(B ∗ R) := by
  unfold Tr at *
  iintro ⟨#HR, HA, Hr⟩
  ihave Hp := h $$ [HA]
  · isplitr; · iexact HR
    iexact HA
  iapply (wp_wand _ _ _ (p := p)) $$ Hp
  iintro %a HB
  isplitl [HB]; · iexact HB
  iexact Hr

theorem Tr.pre (h : A' ⊢ A) (h' : Tr m K c A p B) : Tr m K c A' p B := (sep_mono_right h).trans h'
theorem Tr.post (h' : Tr m K c A p B) (h : B ⊢ B') : Tr m K c A p B' := by
  unfold Tr at *
  exact h'.trans (wp_mono _ _ _ fun _ => h)

/-- A step at the head of a program, in a proof. -/
theorem Tr.step (h : Tr m K c A p B) {Q : PUnit → sProp 𝕄} :
    iprop(records m K ∗ A) ⊢ iprop((B -∗ wp Idealize.ShloMosaic.frame (wpE (defs₀ (F := F)) 𝒱₀ (c : Thread nD τ) none) Set.univ q Q)
      -∗ wp Idealize.ShloMosaic.frame (wpE (defs₀ (F := F)) 𝒱₀ (c : Thread nD τ) none) Set.univ (p >>= fun _ => q) Q) := by
  rw [wp_bind]
  refine h.trans ?_
  iintro Hp Hk
  iapply (wp_wand _ _ _ (p := p)) $$ Hp
  iintro %a HB
  iapply Hk
  iexact HB

/-- The last step of a program. -/
theorem Tr.last (h : Tr m K c A p B) {Q : PUnit → sProp 𝕄} :
    iprop(records m K ∗ A) ⊢ iprop((B -∗ Q ⟨⟩)
      -∗ wp Idealize.ShloMosaic.frame (wpE (defs₀ (F := F)) 𝒱₀ (c : Thread nD τ) none) Set.univ p Q) := by
  refine h.trans ?_
  iintro Hp Hk
  iapply (wp_wand _ _ _ (p := p)) $$ Hp
  iintro %a HB
  iapply Hk
  iexact HB

end

section

variable (m : (ℓ : Loc nD τ sig) → Buf (Elt F) ℓ) (K : Dev nD × Option Ch → ℕ) (c : Dev nD)

/-! ## Cells as a device holds them -/

/-- A cell of its own not yet landed on, the duty in hand; the landing awaited; the round over. -/
def ready (i : Ch) : sProp 𝕄 := iprop(dutyTok ER (ocell c i) 0 0 ∗ atPos ER (ocell c i) 0 ∅ 0)
def flying (i : Ch) : sProp 𝕄 := iprop(cred (tallyAt (ocell c i) () (amt (some i))) ∗ atPos ER (ocell c i) 0 ∅ 0)
def spent (i : Ch) : sProp 𝕄 := semVal (ocell c i) 0
/-- The landings still owed downstream. -/
def owing (l : List Hop) : sProp 𝕄 := iprop(∃ W, owes (c : Thread nD τ) (owed c l) W)

theorem duty_mem (n : Dev nD) {i : Option Ch} (hi : dut i = {0}) : 0 ∈ (rd (F := F) m).duties (cell n i) 0 := by
  rw [duties_cell, hi]; exact Finset.mem_singleton_self _

/-! ## A copy within the device -/

/-- What a written view holds. -/
theorem owns_written {n : Dev nD} {sp : Space} {s : Shape} {e : EltTy} (dst : Memref sig .tc sp s e) (fd : Buf (Elt F) (dst.view.loc (n : Thread nD τ)))
    (X : s.Idx → Elt F e) :
    (dst.view.loc (n : Thread nD τ) ↦[dst.view.set]{fullShare} (dst.view.write (Elt F) fd X Finset.univ) : sProp 𝕄) ⊢ ownsTc n dst fullShare X := by
  have h := owns_intro (Ix := Unit) (Name := ℕ) (U := UU) (Lvl := ℕ) (n : Thread nD τ) dst fullShare (dst.view.write (Elt F) fd X Finset.univ)
  rw [View.read_write_univ] at h
  exact h

theorem copy_tr {sp sp' : Space} {s : Shape} {e : EltTy} {src : Memref sig .tc sp s e} {dst : Memref sig .tc sp' s e} (i : Ch)
    {hsrc : src.view.WordExact} {hdst : dst.view.WordExact} {hsem : DmaTarget.Typed (nD := nD) (τ := τ) (p := .tc) sp (osem i) (.here dst)}
    (hi : dut (some i) = {0}) (hN : dst.view.amount (osem i) = amt (some i)) (π : PosShare TreeShare) (X : s.Idx → Elt F e)
    (hpay : iprop(ownsTc c dst fullShare X ∗ ownsTc c src π X) ⊢ pay m c (some i) 0) :
    Tr m K c iprop(ready c i ∗ ownsTc c src π X ∗ ∃ Y, ownsTc c dst fullShare Y)
      (Prog.lift (.enqueueDma src (.here dst) (osem i) hsrc hdst hsem)) (flying c i) := by
  unfold Tr ready flying Prog.lift ownsTc owns
  iintro ⟨#HR, ⟨Ht, Ha⟩, ⟨%fs, %hfs, Hs⟩, ⟨%Y, %fd, -, Hd⟩⟩
  subst hfs
  have hp : iprop((dst.view.loc (c : Thread nD τ) ↦[dst.view.set]{fullShare}
        (dst.view.write (Elt F) fd (src.view.read (Elt F) fs) Finset.univ)) ∗ (src.view.loc (c : Thread nD τ) ↦[src.view.set]{π} fs))
      ⊢ (rd m).payload (ocell c i) 0 0 := by
    rw [payload_cell]
    refine BIBase.Entails.trans ?_ hpay
    iintro ⟨H1, H2⟩
    isplitl [H1]
    · iapply (owns_written dst fd _); iexact H1
    · iapply (owns_intro (c : Thread nD τ) src π fs); iexact H2
  iapply (Rounds.wp_copy_pointsTo 𝒱₀ ER (rd m) (c : Thread nD τ) none (κ := K (c, some i)) (r := 0) (d := 0) (fs := fs) (fd := fd)
    (duty_mem m c hi) () (amt (some i)) hN (amount_cell m c (some i) 0) hp) $$ [Ht Hs Hd]
  · isplitr; · iapply (records_inv m K c (some i)); iexact HR
    isplitl [Hs]; · iexact Hs
    isplitl [Hd]; · iexact Hd
    isplitl [Ht]; · iexact Ht
    iapply (records_reached m K c (some i)); iexact HR
  iintro Hc
  rw [wp_ret]
  isplitl [Hc]; · iexact Hc
  iexact Ha

/-! ## A send down the stream -/

/-- The token of the landing downstream. -/
def token (h : Fin 6) (d t : Fin 2) : sProp 𝕄 := dutyTok ER (ocell (out d c) (chRecv h d t)) 0 0

section Send

variable {sp sp' : Space} {s : Shape} {e : EltTy} {src : Memref sig .tc sp s e} {dst : Memref sig .tc sp' s e} (h : Fin 6) (d t : Fin 2)
  (l : List Hop) (n : Dev nD) {hsc : dst.view.ref.isScScratch = false}
  {hsrc : src.view.WordExact} {hdst : dst.view.WordExact}
  {hsem : DmaTarget.Typed sp (.dma (recvSem d h t)) (.remote (Dev.tc n : Thread nD τ) dst (.dma (sendSem d h t)) hsc)}
  (hn : n = out d c) (hN : dst.view.amount (.dma (recvSem d h t)) = NB) (π : PosShare TreeShare) (X : s.Idx → Elt F e)
  (Fr : sProp (MT nD τ sig Unit (Elt F) ℕ UU ℕ))

include hn hN

/-- The source comes back by the wait for the send. -/
theorem send_tr (hpay₁ : ownsTc c src π X ⊢ sendPay m c d t h)
    (hpay₂ : iprop(ownsTc (out d c) dst fullShare X ∗ Fr) ⊢ recvPay m (out d c) d t h) :
    Tr m K c iprop(ready c (chSend h d t) ∗ token c h d t ∗ ownsTc c src π X ∗ (∃ Y, ownsTc (out d c) dst fullShare Y) ∗ Fr
        ∗ owing c ((h, d, t) :: l))
      (Prog.lift (.enqueueDma src (.remote (Dev.tc n : Thread nD τ) dst (.dma (sendSem d h t)) hsc) (.dma (recvSem d h t)) hsrc hdst hsem))
      iprop(flying c (chSend h d t) ∗ owing c l) := by
  subst hn
  unfold Tr ready flying token owing Prog.lift ownsTc owns
  iintro ⟨#HR, ⟨Ht, Ha⟩, Ht', ⟨%fs, %hfs, Hs⟩, ⟨%Y, %fd, -, Hd⟩, HF, %W, HO⟩
  subst hfs
  have hp₁ : (src.view.loc (c : Thread nD τ) ↦[src.view.set]{π} fs) ⊢ (rd m).payload (ocell c (chSend h d t)) 0 0 := by
    rw [payload_cell]
    exact (owns_intro (c : Thread nD τ) src π fs).trans hpay₁
  have hp₂ : iprop((dst.view.loc (out d c : Thread nD τ) ↦[dst.view.set]{fullShare}
        (dst.view.write (Elt F) fd (src.view.read (Elt F) fs) Finset.univ)) ∗ Fr) ⊢ (rd m).payload (ocell (out d c) (chRecv h d t)) 0 0 := by
    rw [payload_cell]
    refine BIBase.Entails.trans ?_ hpay₂
    iintro ⟨H1, H2⟩
    isplitl [H1]
    · iapply (owns_written dst fd _); iexact H1
    · iexact H2
  iapply (Rounds.wp_send_pointsTo_with 𝒱₀ ER (rd m) (c : Thread nD τ) none (κ₁ := K (c, some (chSend h d t)))
    (κ₂ := K (out d c, some (chRecv h d t))) (r₁ := 0) (r₂ := 0) (d₁ := 0) (d₂ := 0) (fs := fs) (fd := fd)
    (duty_mem m c (i := some (chSend h d t)) rfl) (duty_mem m (out d c) (i := some (chRecv h d t)) rfl) () () NB hN
    (amount_cell m c (some (chSend h d t)) 0) (amount_cell m (out d c) (some (chRecv h d t)) 0) (owed c l) rfl (W := W)
    hp₁ hp₂) $$ [Ht Ht' Hs Hd HF HO]
  · isplitr; · iapply (records_inv m K c (some (chSend h d t))); iexact HR
    isplitr; · iapply (records_inv m K (out d c) (some (chRecv h d t))); iexact HR
    isplitl [Hs]; · iexact Hs
    isplitl [Hd HF]
    · isplitl [Hd]; · iexact Hd
      iexact HF
    isplitl [HO]; · iexact HO
    isplitl [Ht]; · iexact Ht
    isplitr; · iapply (records_reached m K c (some (chSend h d t))); iexact HR
    isplitl [Ht']; · iexact Ht'
    iapply (records_reached m K (out d c) (some (chRecv h d t))); iexact HR
  iintro ⟨Hc, HO⟩
  rw [wp_ret]
  iapply fupd_intro
  isplitl [Hc Ha]
  · isplitl [Hc]; · iexact Hc
    iexact Ha
  iexists W; iexact HO

/-- The source goes on with the landing. -/
theorem land_tr (hpay₁ : iprop(emp) ⊢ sendPay m c d t h)
    (hpay₂ : iprop((ownsTc (out d c) dst fullShare X ∗ Fr) ∗ ownsTc c src π X) ⊢ recvPay m (out d c) d t h) :
    Tr m K c iprop(ready c (chSend h d t) ∗ token c h d t ∗ ownsTc c src π X ∗ (∃ Y, ownsTc (out d c) dst fullShare Y) ∗ Fr
        ∗ owing c ((h, d, t) :: l))
      (Prog.lift (.enqueueDma src (.remote (Dev.tc n : Thread nD τ) dst (.dma (sendSem d h t)) hsc) (.dma (recvSem d h t)) hsrc hdst hsem))
      iprop(flying c (chSend h d t) ∗ owing c l) := by
  subst hn
  unfold Tr ready flying token owing Prog.lift ownsTc owns
  iintro ⟨#HR, ⟨Ht, Ha⟩, Ht', ⟨%fs, %hfs, Hs⟩, ⟨%Y, %fd, -, Hd⟩, HF, %W, HO⟩
  subst hfs
  have hp₁ : (iprop(emp) : sProp 𝕄) ⊢ (rd m).payload (ocell c (chSend h d t)) 0 0 := by
    rw [payload_cell]
    exact hpay₁
  have hp₂ : iprop(((dst.view.loc (out d c : Thread nD τ) ↦[dst.view.set]{fullShare}
        (dst.view.write (Elt F) fd (src.view.read (Elt F) fs) Finset.univ)) ∗ Fr) ∗ (src.view.loc (c : Thread nD τ) ↦[src.view.set]{π} fs))
      ⊢ (rd m).payload (ocell (out d c) (chRecv h d t)) 0 0 := by
    rw [payload_cell]
    refine BIBase.Entails.trans ?_ hpay₂
    iintro ⟨⟨H1, H2⟩, H3⟩
    isplitl [H1 H2]
    · isplitl [H1]
      · iapply (owns_written dst fd _); iexact H1
      · iexact H2
    · iapply (owns_intro (c : Thread nD τ) src π fs); iexact H3
  iapply (Rounds.wp_send_landing_pointsTo_with 𝒱₀ ER (rd m) (c : Thread nD τ) none (κ₁ := K (c, some (chSend h d t)))
    (κ₂ := K (out d c, some (chRecv h d t))) (r₁ := 0) (r₂ := 0) (d₁ := 0) (d₂ := 0) (fs := fs) (fd := fd)
    (duty_mem m c (i := some (chSend h d t)) rfl) (duty_mem m (out d c) (i := some (chRecv h d t)) rfl) () () NB hN
    (amount_cell m c (some (chSend h d t)) 0) (amount_cell m (out d c) (some (chRecv h d t)) 0) (owed c l) rfl (W := W)
    hp₁ hp₂) $$ [Ht Ht' Hs Hd HF HO]
  · isplitr; · iapply (records_inv m K c (some (chSend h d t))); iexact HR
    isplitr; · iapply (records_inv m K (out d c) (some (chRecv h d t))); iexact HR
    isplitl [Hs]; · iexact Hs
    isplitl [Hd HF]
    · isplitl [Hd]; · iexact Hd
      iexact HF
    isplitl [HO]; · iexact HO
    isplitl [Ht]; · iexact Ht
    isplitr; · iapply (records_reached m K c (some (chSend h d t))); iexact HR
    isplitl [Ht']; · iexact Ht'
    iapply (records_reached m K (out d c) (some (chRecv h d t))); iexact HR
  iintro ⟨Hc, HO⟩
  rw [wp_ret]
  iapply fupd_intro
  isplitl [Hc Ha]
  · isplitl [Hc]; · iexact Hc
    iexact Ha
  iexists W; iexact HO

end Send

/-! ## A wait -/

theorem wait_tr {sp sp' : Space} {s s' : Shape} {e : EltTy} {src : Memref sig .tc sp s e} {dst : Memref sig .tc sp' s' e} (i : Ch)
    {hsrc : src.view.WordExact} {hdst : dst.view.WordExact} (hi : dut (some i) = {0}) (hN : dst.view.dmaCredit = amt (some i))
    (l : List Hop) (hl : ∀ a ∈ l, lev (some i) < 2 + a.1.val) :
    Tr m K c iprop(flying c i ∗ owing c l) (Prog.lift (.waitDma2 (dsem i) src dst hsrc hdst))
      iprop(spent c i ∗ pay m c (some i) 0 ∗ owing c l) := by
  unfold Tr flying spent owing Prog.lift
  iintro ⟨#HR, ⟨Hc, Ha⟩, %W, HO⟩
  iapply (Rounds.wp_wait_rest_token 𝒱₀ ER (rd m) (c : Thread nD τ) none (κ := K (c, some i))
    (wpE_waitDma2_eq 𝒱₀ (c : Thread nD τ) none Set.univ) (Set.mem_univ _) () (O := owed c l) (W := W) (R := 0) (m := 0) (T := ∅)
    (sm := osem i) (k' := dst.view.dmaCredit)
    (by rw [Nat.zero_add, hN]; exact ((expect_cell m c (some i)).trans (by rw [hi, Finset.card_singleton, Nat.one_mul])).symm)) $$ [Hc HO Ha]
  · isplitr; · iapply (records_inv m K c (some i)); iexact HR
    isplitl [Hc]; · rw [hN]; iexact Hc
    isplitl [HO]; · iexact HO
    isplitr; · iapply (mayWait c (some i) l hl); iapply (records_lev m K); iexact HR
    iexact Ha
  iintro ⟨HO, Ha, -, Hp⟩
  imod (Rounds.cell_close ER (rd m) (Set.mem_univ (K (c, some i))) (fun h => h) (R := 0 + 1) (duties_later m (ocell c i))) $$ [Ha] with Hz
  · isplitr; · iapply (records_inv m K c (some i)); iexact HR
    iexact Ha
  rw [wp_ret]
  iapply fupd_intro
  isplitl [Hz]; · iexact Hz
  isplitl [Hp]; · iapply (Entails.of_eq (rest_cell m c (some i) hi)); iexact Hp
  iexists _; iexact HO

end

end Cert.AllReduce

end
-- ==== Proof.Lanes.lean ====
/-
# The lanes

What each piece of a lane does: the first send, a hop that accumulates and sends on, the turn from summing to
gathering, a hop that passes a complete block on, the last landing.
-/
module

public import proofs.«01_k».proof.Proof.Steps
public import Idealize.ShloMosaic.Lib.Pipeline.Value
public import Idealize.ShloMosaic.Lib.MemrefSat

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (m : (ℓ : Loc nD τ sig) → Buf (Elt F) ℓ) (K : Dev nD × Option Ch → ℕ) (c : Dev nD)

/-! ## Payloads, seen from the sender -/

theorem recvPay_out0 (d t : Fin 2) : recvPay m (out d c) d t 0 = slotAt (out d c) d 0 t (part m d t 0 c) := by
  unfold recvPay; simp only [ups_ups, Fin.reduceAdd, ups_zero]
theorem recvPay_out1 (d t : Fin 2) :
    recvPay m (out d c) d t 1 = iprop(slotAt (out d c) d 1 t (part m d t 1 c) ∗ blkAny aM c d (ups d c 1) t) := by
  unfold recvPay; simp only [ups_ups, Fin.reduceAdd, ups_zero]
theorem recvPay_out2 (d t : Fin 2) :
    recvPay m (out d c) d t 2 = iprop(slotAt (out d c) d 2 t (part m d t 2 c) ∗ blkAny aM c d (ups d c 2) t
      ∗ blkAny aM (ups d c 1) d (ups d c 2) t) := by
  unfold recvPay; simp only [ups_ups, Fin.reduceAdd, ups_zero]
theorem recvPay_out3 (d t : Fin 2) :
    recvPay m (out d c) d t 3 = iprop(blkAt aM (out d c) d (ups d c 3) t fullShare (full m d (ups d c 3) t)
      ∗ blkAny aM (ups d c 1) d (ups d c 3) t ∗ blkAny aM (ups d c 2) d (ups d c 3) t) := by
  unfold recvPay; simp only [ups_ups, Fin.reduceAdd, ups_zero]
theorem recvPay_out4 (d t : Fin 2) :
    recvPay m (out d c) d t 4 = iprop(blkAt aM (out d c) d (ups d c 0) t fullShare (full m d (ups d c 0) t)
      ∗ blkAny aM (ups d c 2) d (ups d c 0) t) := by
  unfold recvPay; simp only [ups_ups, Fin.reduceAdd, ups_zero]
theorem recvPay_out5 (d t : Fin 2) :
    recvPay m (out d c) d t 5 = blkAt aM (out d c) d (ups d c 1) t fullShare (full m d (ups d c 1) t) := by
  unfold recvPay; simp only [ups_ups, Fin.reduceAdd, ups_zero]

/-- The sum a device has after its third addition is the complete one. -/
theorem full_turn (d t : Fin 2) : full m d (ups d c 3) t = part m d t 3 c := by
  unfold full; simp only [ups_ups, Fin.reduceAdd, ups_zero]

/-! ## Single operations -/

theorem add_tr {d : Fin 2} {q : Dev nD} {t : Fin 2} (k : Fin 3) {o : Fin 2 → ℕ} (h : In512 o) (ho : o = bo d q t) (A B : BV F) :
    Tr m K c iprop(blkAt aM c d q t fullShare A ∗ slotAt c d k t B) (pAdd o h d k t)
      iprop(blkAt aM c d q t fullShare (addf A B) ∗ slotAt c d k t B) := by
  subst ho
  unfold Tr pAdd blkAt slotAt ownsTc owns
  simp only [Prog.lift, Prog.bind_op, Prog.bind_ret]
  iintro ⟨#HR, ⟨%f, %hf, Ha⟩, %g, %hg, Hb⟩
  subst hf
  subst hg
  iapply (wp_load_rect 𝒱₀ (c : Thread nD τ) none Set.univ (m := aM) (r := rect512 (bo d q t) h) (f := f) (q := fullShare) subset_rfl) $$ [Ha]
  · iexact Ha
  iintro Ha
  iapply (wp_load_rect 𝒱₀ (c : Thread nD τ) none Set.univ (m := sM) (r := slotRect d k t) (f := g) (q := fullShare)
    (S := (slot d k t).view.set) (by rw [View.set_reshape])) $$ [Hb]
  · iexact Hb
  iintro Hb
  iapply (wp_load_rect 𝒱₀ (c : Thread nD τ) none Set.univ (m := aM) (r := rect512 (bo d q t) h) (f := f) (q := fullShare) subset_rfl) $$ [Ha]
  · iexact Ha
  iintro Ha
  iapply (wp_store 𝒱₀ (c : Thread nD τ) none Set.univ (m := aM) (r := rect512 (bo d q t) h) (f := f) (S := (aM.access (rect512 (bo d q t) h)).set)
    (by rw [View.setOn_univ])) $$ [Ha]
  · iexact Ha
  iintro Ha
  rw [wp_ret]
  iapply fupd_intro
  isplitl [Ha]
  · iexists _
    isplitr
    rotate_left
    · iexact Ha
    · ipureintro
      refine (View.read_write_univ _ _).trans ?_
      exact shapeCast_self _ _
  · iexists g
    isplitr
    · ipureintro; rfl
    · iexact Hb

/-! ### Waits -/

theorem lev_recv (h : Fin 6) (d t : Fin 2) : lev (some (chRecv h d t)) = 2 + h.val := rfl

section Waits

variable (d t : Fin 2) {o : Fin 2 → ℕ} (ho : In512 o) (l : List Hop)

theorem recvS_tr (h : Fin 6) (k : Fin 3) (hl : ∀ a ∈ l, h.val < a.1.val) :
    Tr m K c iprop(flying c (chRecv h d t) ∗ owing c l) (pRecvS o ho d k t (recvSem d h t))
      iprop(spent c (chRecv h d t) ∗ recvPay m c d t h ∗ owing c l) :=
  wait_tr m K c (chRecv h d t) rfl (credit_slot d k t) l fun a ha => Nat.add_lt_add_left (hl a ha) 2
theorem recvA_tr (h : Fin 6) (hl : ∀ a ∈ l, h.val < a.1.val) :
    Tr m K c iprop(flying c (chRecv h d t) ∗ owing c l) (pRecvA o ho (recvSem d h t))
      iprop(spent c (chRecv h d t) ∗ recvPay m c d t h ∗ owing c l) :=
  wait_tr m K c (chRecv h d t) rfl (credit_a o ho) l fun a ha => Nat.add_lt_add_left (hl a ha) 2

theorem sentX_tr (h : Fin 6) (k : Fin 3) :
    Tr m K c iprop(flying c (chSend h d t) ∗ owing c l) (pSentX o ho d k t (sendSem d h t))
      iprop(spent c (chSend h d t) ∗ sendPay m c d t h ∗ owing c l) :=
  wait_tr m K c (chSend h d t) rfl (credit_x o ho) l fun a _ => by show 0 < 2 + a.1.val; omega
theorem sentS_tr (h : Fin 6) (k : Fin 3) :
    Tr m K c iprop(flying c (chSend h d t) ∗ owing c l) (pSentS o ho d k t (sendSem d h t))
      iprop(spent c (chSend h d t) ∗ sendPay m c d t h ∗ owing c l) :=
  wait_tr m K c (chSend h d t) rfl (credit_a o ho) l fun a _ => by show 0 < 2 + a.1.val; omega
theorem sentA_tr (h : Fin 6) :
    Tr m K c iprop(flying c (chSend h d t) ∗ owing c l) (pRecvA o ho (sendSem d h t))
      iprop(spent c (chSend h d t) ∗ sendPay m c d t h ∗ owing c l) :=
  wait_tr m K c (chSend h d t) rfl (credit_a o ho) l fun a _ => by show 0 < 2 + a.1.val; omega
theorem storeWait_tr (k : Fin 4) :
    Tr m K c iprop(flying c (chStore k d t) ∗ owing c l) (pStoreWait o ho (storeSem d k t))
      iprop(spent c (chStore k d t) ∗ storePay m c d t k ∗ owing c l) :=
  wait_tr m K c (chStore k d t) rfl (credit_o o ho) l fun a _ => by show 0 < 2 + a.1.val; omega
theorem loadWait_tr {o : Fin 2 → ℕ} (ho : In1024 o) (k : Fin 4) (hk : k ≠ 0) :
    Tr m K c iprop(flying c (chLoad k d) ∗ owing c l) (pLoadWait o ho (loadSem d k))
      iprop(spent c (chLoad k d) ∗ loadPay m c d k ∗ owing c l) :=
  wait_tr m K c (chLoad k d) (if_neg hk) (credit_c o ho) l fun a _ => by show 0 < 2 + a.1.val; omega

end Waits

/-! ### Copies and sends -/

theorem load_tr (d : Fin 2) (k : Fin 4) (hk : k ≠ 0) {o : Fin 2 → ℕ} (h : In1024 o) (ho : o = co d (ups d c k)) :
    Tr m K c iprop(ready c (chLoad k d) ∗ chkAt xM c d (ups d c k) (chkX m c d (ups d c k)) ∗ chkAny aM c d (ups d c k))
      (pLoad o h (loadSem d k)) (flying c (chLoad k d)) := by
  subst ho
  exact copy_tr m K c (chLoad k d) (if_neg hk) (credit_c _ _) fullShare (chkX m c d (ups d c k)) .rfl

section Out

variable (d t : Fin 2) {o : Fin 2 → ℕ} (h : In512 o)

theorem store_tr (k : Fin 4) (ho : o = bo d (ups d c k) t) :
    Tr m K c iprop(ready c (chStore k d t) ∗ blkAt aM c d (ups d c k) t (stShare k) (full m d (ups d c k) t) ∗ blkAny oM c d (ups d c k) t)
      (pStore o h (storeSem d k t)) (flying c (chStore k d t)) := by
  subst ho
  exact copy_tr m K c (chStore k d t) rfl (credit_o _ _) (stShare k) (full m d (ups d c k) t) .rfl

variable (l : List Hop)

theorem sendX_tr (ho : o = bo d (ups d c 0) t) :
    Tr m K c iprop(ready c (chSend 0 d t) ∗ token c 0 d t ∗ blkAt xM c d (ups d c 0) t fullShare (blkX m c d (ups d c 0) t)
        ∗ slotAny (out d c) d 0 t ∗ emp ∗ owing c ((0, d, t) :: l))
      (pSendX o h (tgt d c) d 0 t (sendSem d 0 t) (recvSem d 0 t)) iprop(flying c (chSend 0 d t) ∗ owing c l) := by
  subst ho
  refine send_tr m K c 0 d t l (tgt d c) (tgt_eq d c) (credit_slot d 0 t) fullShare (blkX m c d (ups d c 0) t) iprop(emp) .rfl ?_
  rw [recvPay_out0]
  show iprop(slotAt (out d c) d 0 t (part m d t 0 c) ∗ emp) ⊢ slotAt (out d c) d 0 t (part m d t 0 c)
  iintro ⟨H, -⟩
  iexact H

theorem sendS_tr (h' : Fin 6) (k : Fin 3) {q : Dev nD} (ho : o = bo d q t) (X : BV F) (Fr : sProp 𝕄)
    (hs : iprop(emp) ⊢ sendPay m c d t h')
    (hp : iprop((slotAt (out d c) d k t X ∗ Fr) ∗ blkAt aM c d q t fullShare X) ⊢ recvPay m (out d c) d t h') :
    Tr m K c iprop(ready c (chSend h' d t) ∗ token c h' d t ∗ blkAt aM c d q t fullShare X
        ∗ slotAny (out d c) d k t ∗ Fr ∗ owing c ((h', d, t) :: l))
      (pSendS o h (tgt d c) d k t (sendSem d h' t) (recvSem d h' t)) iprop(flying c (chSend h' d t) ∗ owing c l) := by
  subst ho
  exact land_tr m K c h' d t l (tgt d c) (tgt_eq d c) (credit_slot d k t) fullShare X Fr hs hp

theorem sendA_tr (h' : Fin 6) {q : Dev nD} (ho : o = bo d q t) (X : BV F) (Fr : sProp 𝕄)
    (hs : blkAt aM c d q t fullShare.right X ⊢ sendPay m c d t h')
    (hp : iprop(blkAt aM (out d c) d q t fullShare X ∗ Fr) ⊢ recvPay m (out d c) d t h') :
    Tr m K c iprop(ready c (chSend h' d t) ∗ token c h' d t ∗ blkAt aM c d q t fullShare.right X
        ∗ blkAny aM (out d c) d q t ∗ Fr ∗ owing c ((h', d, t) :: l))
      (pSendA o h (tgt d c) (sendSem d h' t) (recvSem d h' t)) iprop(flying c (chSend h' d t) ∗ owing c l) := by
  subst ho
  exact send_tr m K c h' d t l (tgt d c) (tgt_eq d c) (credit_a _ _) fullShare.right X Fr hs hp

end Out

/-! ## The pieces of a lane -/

section Pieces

variable (d t : Fin 2) (l : List Hop)

/-- The first send. -/
theorem first_tr :
    Tr m K c iprop((ready c (chSend 0 d t) ∗ token c 0 d t ∗ blkAt xM c d (ups d c 0) t fullShare (blkX m c d (ups d c 0) t)
        ∗ slotAny (out d c) d 0 t) ∗ owing c ((0, d, t) :: l))
      (pSendX (offX d c t) (offX_in d c t) (tgt d c) d 0 t (sendSem d 0 t) (recvSem d 0 t))
      iprop(flying c (chSend 0 d t) ∗ owing c l) := by
  refine Tr.pre ?_ (sendX_tr m K c d t _ l (offX_eq d c t))
  iintro ⟨⟨H1, H2, H3, H4⟩, H5⟩
  isplitl [H1]; · iexact H1
  isplitl [H2]; · iexact H2
  isplitl [H3]; · iexact H3
  isplitl [H4]; · iexact H4
  isplitr; · iempintro
  iexact H5

/-- A hop that accumulates and sends on: the partial sum after `n` additions comes in, the next one goes out. -/
theorem hop_tr (r r' : Fin 3) (k : Fin 4) (h h' : Fin 6) (n : ℕ) (Fr : sProp 𝕄) (hr : k = r.succ) (hn : Fin.ofNat 4 (n + 1) = k)
    (hin : recvPay m c d t h ⊢ iprop(slotAt c d r t (part m d t n (inn d c)) ∗ Fr))
    (hs : iprop(emp) ⊢ sendPay m c d t h')
    (hp : iprop((slotAt (out d c) d r' t (part m d t (n + 1) c) ∗ Fr) ∗ blkAt aM c d (ups d c k) t fullShare (part m d t (n + 1) c))
      ⊢ recvPay m (out d c) d t h')
    (hh : h.val < h'.val) (hl : ∀ a ∈ l, h'.val ≤ a.1.val) :
    Tr m K c iprop((flying c (chRecv h d t) ∗ blkAt aM c d (ups d c k) t fullShare (blkX m c d (ups d c k) t)
        ∗ ready c (chSend h' d t) ∗ token c h' d t ∗ slotAny (out d c) d r' t) ∗ owing c ((h', d, t) :: l))
      (lHop c r k r' h h' d t)
      iprop((spent c (chRecv h d t) ∗ slotAny c d r t ∗ flying c (chSend h' d t)) ∗ owing c l) := by
  have e : part m d t (n + 1) c = addf (blkX m c d (ups d c k) t) (part m d t n (inn d c)) := by rw [← hn]; rfl
  have hw : ∀ a ∈ ((h', d, t) :: l : List Hop), h.val < a.1.val := fun a ha => by
    rcases List.mem_cons.mp ha with rfl | ha
    · exact hh
    · exact lt_of_lt_of_le hh (hl a ha)
  have t1 := recvS_tr m K c d t (offB_in d c k t) _ h r hw
  have t2 := add_tr m K c (d := d) (q := ups d c k) (t := t) r (offV_in d c r t) (by rw [offV_eq, hr]) (blkX m c d (ups d c k) t)
    (part m d t n (inn d c))
  have t3 := sendS_tr m K c d t (offB_in d c k t) l h' r' (offB_eq d c k t) _ Fr hs hp
  rw [← e] at t2
  unfold Tr lHop
  iintro ⟨#HR, ⟨Hf, Hb, Hs, Ht, Hn⟩, HO⟩
  iapply t1.step $$ [Hf HO]
  · isplitr; · iexact HR
    isplitl [Hf]; · iexact Hf
    iexact HO
  iintro ⟨Hz, Hp, HO⟩
  ihave Hp := hin $$ Hp
  icases Hp with ⟨Hsl, HF⟩
  iapply t2.step $$ [Hb Hsl]
  · isplitr; · iexact HR
    isplitl [Hb]; · iexact Hb
    iexact Hsl
  iintro ⟨Hb, Hsl⟩
  iapply t3.last $$ [Hs Ht Hb Hn HF HO]
  · isplitr; · iexact HR
    isplitl [Hs]; · iexact Hs
    isplitl [Ht]; · iexact Ht
    isplitl [Hb]; · iexact Hb
    isplitl [Hn]; · iexact Hn
    isplitl [HF]; · iexact HF
    iexact HO
  iintro ⟨Hs, HO⟩
  isplitr [HO]
  · isplitl [Hz]; · iexact Hz
    isplitl [Hsl]; · unfold slotAny; iexists _; iexact Hsl
    iexact Hs
  iexact HO

theorem hop0_tr (hl : ∀ a ∈ l, 1 ≤ a.1.val) :
    Tr m K c iprop((flying c (chRecv 0 d t) ∗ blkAt aM c d (ups d c 1) t fullShare (blkX m c d (ups d c 1) t)
        ∗ ready c (chSend 1 d t) ∗ token c 1 d t ∗ slotAny (out d c) d 1 t) ∗ owing c ((1, d, t) :: l))
      (lHop c 0 1 1 0 1 d t)
      iprop((spent c (chRecv 0 d t) ∗ slotAny c d 0 t ∗ flying c (chSend 1 d t)) ∗ owing c l) := by
  refine hop_tr m K c d t l 0 1 1 0 1 0 iprop(emp) rfl rfl ?_ .rfl ?_ (by decide) hl
  · show slotAt c d 0 t (part m d t 0 (inn d c)) ⊢ _
    iintro H
    isplitl [H]; · iexact H
    iempintro
  · rw [recvPay_out1]
    iintro ⟨⟨H, -⟩, Hb⟩
    isplitl [H]; · iexact H
    unfold blkAny; iexists _; iexact Hb

theorem hop1_tr (hl : ∀ a ∈ l, 2 ≤ a.1.val) :
    Tr m K c iprop((flying c (chRecv 1 d t) ∗ blkAt aM c d (ups d c 2) t fullShare (blkX m c d (ups d c 2) t)
        ∗ ready c (chSend 2 d t) ∗ token c 2 d t ∗ slotAny (out d c) d 2 t) ∗ owing c ((2, d, t) :: l))
      (lHop c 1 2 2 1 2 d t)
      iprop((spent c (chRecv 1 d t) ∗ slotAny c d 1 t ∗ flying c (chSend 2 d t)) ∗ owing c l) := by
  refine hop_tr m K c d t l 1 2 2 1 2 1 (blkAny aM (ups d c 1) d (ups d c 2) t) rfl rfl .rfl .rfl ?_ (by decide) hl
  rw [recvPay_out2]
  iintro ⟨⟨H, HF⟩, Hb⟩
  isplitl [H]; · iexact H
  isplitl [Hb]; · unfold blkAny; iexists _; iexact Hb
  iexact HF

/-- A block whole is its two shares. -/
theorem blk_shares {sp : Space} (M : Memref sig .tc sp S8192x1024 .f32) (q : Dev nD) (X : BV F) :
    blkAt M c d q t fullShare X ⊢ iprop(blkAt M c d q t fullShare.left X ∗ blkAt M c d q t fullShare.right X) := by
  unfold blkAt
  exact (owns_halves (c : Thread nD τ) _ fullShare X).1
theorem blk_join {sp : Space} (M : Memref sig .tc sp S8192x1024 .f32) (q : Dev nD) (X : BV F) :
    iprop(blkAt M c d q t fullShare.left X ∗ blkAt M c d q t fullShare.right X) ⊢ blkAt M c d q t fullShare X := by
  unfold blkAt
  exact (owns_halves (c : Thread nD τ) _ fullShare X).2

/-- The last addition: the complete block is stored and starts around. -/
theorem turn_tr (hl : ∀ a ∈ l, 3 ≤ a.1.val) :
    Tr m K c iprop((flying c (chRecv 2 d t) ∗ blkAt aM c d (ups d c 3) t fullShare (blkX m c d (ups d c 3) t)
        ∗ ready c (chStore 3 d t) ∗ blkAny oM c d (ups d c 3) t
        ∗ ready c (chSend 3 d t) ∗ token c 3 d t ∗ blkAny aM (out d c) d (ups d c 3) t) ∗ owing c ((3, d, t) :: l))
      (lTurn c d t)
      iprop((spent c (chRecv 2 d t) ∗ slotAny c d 2 t ∗ flying c (chStore 3 d t) ∗ flying c (chSend 3 d t)) ∗ owing c l) := by
  have e : addf (blkX m c d (ups d c 3) t) (part m d t 2 (inn d c)) = full m d (ups d c 3) t := (full_turn m c d t).symm
  have hw : ∀ a ∈ ((3, d, t) :: l : List Hop), (2 : Fin 6).val < a.1.val := fun a ha => by
    rcases List.mem_cons.mp ha with rfl | ha
    · show 2 < 3; omega
    · exact hl a ha
  have t1 := recvS_tr m K c d t (offB_in d c 3 t) _ 2 2 hw
  have t2 := add_tr m K c (d := d) (q := ups d c 3) (t := t) 2 (offV_in d c 2 t) (offV_eq d c 2 t) (blkX m c d (ups d c 3) t)
    (part m d t 2 (inn d c))
  have t3 := store_tr m K c d t (offB_in d c 3 t) 3 (offB_eq d c 3 t)
  have t4 := sendA_tr m K c d t (offB_in d c 3 t) l 3 (offB_eq d c 3 t) (full m d (ups d c 3) t)
    iprop(blkAny aM (ups d c 1) d (ups d c 3) t ∗ blkAny aM (ups d c 2) d (ups d c 3) t) .rfl (by rw [recvPay_out3])
  rw [e] at t2
  unfold Tr lTurn
  iintro ⟨#HR, ⟨Hf, Hb, Hst, Ho, Hs, Ht, Hn⟩, HO⟩
  iapply t1.step $$ [Hf HO]
  · isplitr; · iexact HR
    isplitl [Hf]; · iexact Hf
    iexact HO
  iintro ⟨Hz, Hp, HO⟩
  ihave Hp := (show recvPay m c d t 2 ⊢ iprop(slotAt c d 2 t (part m d t 2 (inn d c)) ∗ blkAny aM (ups d c 1) d (ups d c 3) t
    ∗ blkAny aM (ups d c 2) d (ups d c 3) t) from .rfl) $$ Hp
  icases Hp with ⟨Hsl, HF⟩
  iapply t2.step $$ [Hb Hsl]
  · isplitr; · iexact HR
    isplitl [Hb]; · iexact Hb
    iexact Hsl
  iintro ⟨Hb, Hsl⟩
  ihave Hb := (blk_shares c d t aM (ups d c 3) _) $$ Hb
  icases Hb with ⟨Hl, Hr⟩
  iapply t3.step $$ [Hst Hl Ho]
  · isplitr; · iexact HR
    isplitl [Hst]; · iexact Hst
    isplitl [Hl]; · iexact Hl
    iexact Ho
  iintro Hst
  iapply t4.last $$ [Hs Ht Hr Hn HF HO]
  · isplitr; · iexact HR
    isplitl [Hs]; · iexact Hs
    isplitl [Ht]; · iexact Ht
    isplitl [Hr]; · iexact Hr
    isplitl [Hn]; · iexact Hn
    isplitl [HF]; · iexact HF
    iexact HO
  iintro ⟨Hs, HO⟩
  isplitr [HO]
  · isplitl [Hz]; · iexact Hz
    isplitl [Hsl]; · unfold slotAny; iexists _; iexact Hsl
    isplitl [Hst]; · iexact Hst
    iexact Hs
  iexact HO

/-- A complete block arrives, is stored and passed on. -/
theorem pass_tr (k : Fin 4) (h h' : Fin 6) (Fr : sProp 𝕄) (hk : stShare k = fullShare.left)
    (hin : recvPay m c d t h ⊢ iprop(blkAt aM c d (ups d c k) t fullShare (full m d (ups d c k) t)
      ∗ blkAny aM (out d c) d (ups d c k) t ∗ Fr))
    (hs : blkAt aM c d (ups d c k) t fullShare.right (full m d (ups d c k) t) ⊢ sendPay m c d t h')
    (hp : iprop(blkAt aM (out d c) d (ups d c k) t fullShare (full m d (ups d c k) t) ∗ Fr) ⊢ recvPay m (out d c) d t h')
    (hh : h.val < h'.val) (hl : ∀ a ∈ l, h'.val ≤ a.1.val) :
    Tr m K c iprop((flying c (chRecv h d t) ∗ ready c (chStore k d t) ∗ blkAny oM c d (ups d c k) t
        ∗ ready c (chSend h' d t) ∗ token c h' d t) ∗ owing c ((h', d, t) :: l))
      (lPass c k h h' d t)
      iprop((spent c (chRecv h d t) ∗ flying c (chStore k d t) ∗ flying c (chSend h' d t)) ∗ owing c l) := by
  have hw : ∀ a ∈ ((h', d, t) :: l : List Hop), h.val < a.1.val := fun a ha => by
    rcases List.mem_cons.mp ha with rfl | ha
    · exact hh
    · exact lt_of_lt_of_le hh (hl a ha)
  have t1 := recvA_tr m K c d t (offB_in d c k t) _ h hw
  have t3 := store_tr m K c d t (offB_in d c k t) k (offB_eq d c k t)
  have t4 := sendA_tr m K c d t (offB_in d c k t) l h' (offB_eq d c k t) (full m d (ups d c k) t) Fr hs hp
  rw [hk] at t3
  unfold Tr lPass
  iintro ⟨#HR, ⟨Hf, Hst, Ho, Hs, Ht⟩, HO⟩
  iapply t1.step $$ [Hf HO]
  · isplitr; · iexact HR
    isplitl [Hf]; · iexact Hf
    iexact HO
  iintro ⟨Hz, Hp, HO⟩
  ihave Hp := hin $$ Hp
  icases Hp with ⟨Hb, Hn, HF⟩
  ihave Hb := (blk_shares c d t aM (ups d c k) _) $$ Hb
  icases Hb with ⟨Hl, Hr⟩
  iapply t3.step $$ [Hst Hl Ho]
  · isplitr; · iexact HR
    isplitl [Hst]; · iexact Hst
    isplitl [Hl]; · iexact Hl
    iexact Ho
  iintro Hst
  iapply t4.last $$ [Hs Ht Hr Hn HF HO]
  · isplitr; · iexact HR
    isplitl [Hs]; · iexact Hs
    isplitl [Ht]; · iexact Ht
    isplitl [Hr]; · iexact Hr
    isplitl [Hn]; · iexact Hn
    isplitl [HF]; · iexact HF
    iexact HO
  iintro ⟨Hs, HO⟩
  isplitr [HO]
  · isplitl [Hz]; · iexact Hz
    isplitl [Hst]; · iexact Hst
    iexact Hs
  iexact HO

theorem pass0_tr (hl : ∀ a ∈ l, 4 ≤ a.1.val) :
    Tr m K c iprop((flying c (chRecv 3 d t) ∗ ready c (chStore 0 d t) ∗ blkAny oM c d (ups d c 0) t
        ∗ ready c (chSend 4 d t) ∗ token c 4 d t) ∗ owing c ((4, d, t) :: l))
      (lPass c 0 3 4 d t)
      iprop((spent c (chRecv 3 d t) ∗ flying c (chStore 0 d t) ∗ flying c (chSend 4 d t)) ∗ owing c l) := by
  refine pass_tr m K c d t l 0 3 4 (blkAny aM (ups d c 2) d (ups d c 0) t) rfl ?_ .rfl (by rw [recvPay_out4]) (by decide) hl
  show iprop(blkAt aM c d (ups d c 0) t fullShare (full m d (ups d c 0) t)
      ∗ blkAny aM (ups d c 2) d (ups d c 0) t ∗ blkAny aM (ups d c 3) d (ups d c 0) t) ⊢ _
  iintro ⟨H1, H2, H3⟩
  isplitl [H1]; · iexact H1
  isplitl [H3]; · iexact H3
  iexact H2

theorem pass1_tr (hl : ∀ a ∈ l, 5 ≤ a.1.val) :
    Tr m K c iprop((flying c (chRecv 4 d t) ∗ ready c (chStore 1 d t) ∗ blkAny oM c d (ups d c 1) t
        ∗ ready c (chSend 5 d t) ∗ token c 5 d t) ∗ owing c ((5, d, t) :: l))
      (lPass c 1 4 5 d t)
      iprop((spent c (chRecv 4 d t) ∗ flying c (chStore 1 d t) ∗ flying c (chSend 5 d t)) ∗ owing c l) := by
  refine pass_tr m K c d t l 1 4 5 iprop(emp) rfl ?_ .rfl ?_ (by decide) hl
  · show iprop(blkAt aM c d (ups d c 1) t fullShare (full m d (ups d c 1) t) ∗ blkAny aM (ups d c 3) d (ups d c 1) t) ⊢ _
    iintro ⟨H1, H2⟩
    isplitl [H1]; · iexact H1
    isplitl [H2]; · iexact H2
    iempintro
  · rw [recvPay_out5]
    iintro ⟨H, -⟩
    iexact H

/-- The last complete block arrives and is stored. -/
theorem last_tr :
    Tr m K c iprop((flying c (chRecv 5 d t) ∗ ready c (chStore 2 d t) ∗ blkAny oM c d (ups d c 2) t) ∗ owing c [])
      (lLast c d t)
      iprop((spent c (chRecv 5 d t) ∗ flying c (chStore 2 d t)) ∗ owing c []) := by
  have t1 := recvA_tr m K c d t (offB_in d c 2 t) [] 5 (fun a ha => nomatch ha)
  have t3 := store_tr m K c d t (offB_in d c 2 t) 2 (offB_eq d c 2 t)
  unfold Tr lLast
  iintro ⟨#HR, ⟨Hf, Hst, Ho⟩, HO⟩
  iapply t1.step $$ [Hf HO]
  · isplitr; · iexact HR
    isplitl [Hf]; · iexact Hf
    iexact HO
  iintro ⟨Hz, Hp, HO⟩
  ihave Hp := (show recvPay m c d t 5 ⊢ blkAt aM c d (ups d c 2) t (stShare 2) (full m d (ups d c 2) t) from .rfl) $$ Hp
  iapply t3.last $$ [Hst Hp Ho]
  · isplitr; · iexact HR
    isplitl [Hst]; · iexact Hst
    isplitl [Hp]; · iexact Hp
    iexact Ho
  iintro Hst
  isplitr [HO]
  · isplitl [Hz]; · iexact Hz
    iexact Hst
  iexact HO

end Pieces

end

end Cert.AllReduce

end
-- ==== Proof.Geo.lean ====
/-
# Parts of the arrays

An array of the kernel is its sixteen blocks, sorted by how many hops up the stream their chunk starts; a chunk is its
two halves; the landing buffer is its twelve slots.
-/
module

public import proofs.«01_k».proof.Proof.Cells
public import Idealize.ShloMosaic.Lib.MemrefSat

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles -/

theorem mem_blk {d : Fin 2} {q : Dev nD} {t : Fin 2} {i : S8192x1024.Idx} :
    i ∈ (rect512 (bo d q t) (bo_in d q t)).set
      ↔ 4096 * d.val + 1024 * q.val + 512 * t.val ≤ (i 0).val ∧ (i 0).val < 4096 * d.val + 1024 * q.val + 512 * t.val + 512 := by
  rw [Rect.mem_set_unit]
  have h1 : (i 1).val < 1024 := (i 1).isLt
  constructor
  · intro h; exact h 0
  · intro h a
    match a with
    | 0 => exact h
    | 1 => exact ⟨Nat.zero_le _, by simpa [bo] using h1⟩

theorem mem_chk {d : Fin 2} {q : Dev nD} {i : S8192x1024.Idx} :
    i ∈ (rect1024 (co d q) (co_in d q)).set
      ↔ 4096 * d.val + 1024 * q.val ≤ (i 0).val ∧ (i 0).val < 4096 * d.val + 1024 * q.val + 1024 := by
  rw [Rect.mem_set_unit]
  have h1 : (i 1).val < 1024 := (i 1).isLt
  constructor
  · intro h; exact h 0
  · intro h a
    match a with
    | 0 => exact h
    | 1 => exact ⟨Nat.zero_le _, by simpa [co] using h1⟩

theorem ups_inj (d : Fin 2) (c : Dev nD) {k k' : Fin 4} (h : ups d c k = ups d c k') : k = k' := by
  revert d c k k'; decide
theorem ups_surj (d : Fin 2) (c q : Dev nD) : ∃ k, ups d c k = q := by revert d c q; decide

/-- The blocks by hops up, lane by lane. -/
abbrev BIx : Type := Fin 4 × Lane
abbrev blkRect (c : Dev nD) (x : BIx) : Rect S8192x1024 := rect512 (bo x.2.1 (ups x.2.1 c x.1) x.2.2) (bo_in _ _ _)

theorem blk_disjoint (c : Dev nD) (x y : BIx) (h : x ≠ y) : Disjoint (blkRect c x).set (blkRect c y).set := by
  obtain ⟨k, d, t⟩ := x
  obtain ⟨k', d', t'⟩ := y
  refine Finset.disjoint_left.mpr fun i hi hj => h ?_
  have hi : 4096 * d.val + 1024 * (ups d c k).val + 512 * t.val ≤ (i 0).val
    ∧ (i 0).val < 4096 * d.val + 1024 * (ups d c k).val + 512 * t.val + 512 := mem_blk.mp hi
  have hj : 4096 * d'.val + 1024 * (ups d' c k').val + 512 * t'.val ≤ (i 0).val
    ∧ (i 0).val < 4096 * d'.val + 1024 * (ups d' c k').val + 512 * t'.val + 512 := mem_blk.mp hj
  have bt := t.isLt
  have bt' := t'.isLt
  have hq : (ups d c k).val < 4 := (ups d c k).isLt
  have hq' : (ups d' c k').val < 4 := (ups d' c k').isLt
  have hd : d = d' := Fin.ext (by omega)
  subst hd
  have hk : k = k' := ups_inj d c (Fin.ext (by omega))
  subst hk
  have ht : t = t' := Fin.ext (by omega)
  subst ht
  rfl

theorem blk_cover (c : Dev nD) : (Finset.univ : Finset BIx).biUnion (fun x => (blkRect c x).set) = Finset.univ := by
  refine Finset.eq_univ_iff_forall.mpr fun i => ?_
  have hi : (i 0).val < 8192 := (i 0).isLt
  let d : Fin 2 := ⟨(i 0).val / 4096, by omega⟩
  let q : Dev nD := ⟨(i 0).val % 4096 / 1024, by have : (i 0).val % 4096 < 4096 := Nat.mod_lt _ (by decide); show _ < 4; omega⟩
  let t : Fin 2 := ⟨(i 0).val % 1024 / 512, by omega⟩
  obtain ⟨k, hk⟩ := ups_surj d c q
  refine Finset.mem_biUnion.mpr ⟨(k, d, t), Finset.mem_univ _, ?_⟩
  refine mem_blk.mpr ?_
  show 4096 * d.val + 1024 * (ups d c k).val + 512 * t.val ≤ _ ∧ _ < 4096 * d.val + 1024 * (ups d c k).val + 512 * t.val + 512
  rw [hk]
  show 4096 * ((i 0).val / 4096) + 1024 * ((i 0).val % 4096 / 1024) + 512 * ((i 0).val % 1024 / 512) ≤ _
    ∧ _ < 4096 * ((i 0).val / 4096) + 1024 * ((i 0).val % 4096 / 1024) + 512 * ((i 0).val % 1024 / 512) + 512
  omega

/-! ## An array is its blocks -/

/-- One assertion per lane. -/
def lan (Φ : Fin 2 → Fin 2 → sProp 𝕄) : sProp 𝕄 := bigSep Finset.univ fun l : Lane => Φ l.1 l.2

theorem lan_mono {Φ Ψ : Fin 2 → Fin 2 → sProp 𝕄} (h : ∀ d t, Φ d t ⊢ Ψ d t) : lan Φ ⊢ lan Ψ := bigSep_mono fun l _ => h l.1 l.2
theorem lan_sep (Φ Ψ : Fin 2 → Fin 2 → sProp 𝕄) : lan (fun d t => iprop(Φ d t ∗ Ψ d t)) = iprop(lan Φ ∗ lan Ψ) := bigSep_sep _ _ _
theorem lan_eq (Φ : Fin 2 → Fin 2 → sProp 𝕄) : lan Φ = iprop((Φ 0 0 ∗ Φ 0 1) ∗ Φ 1 0 ∗ Φ 1 1) := by
  unfold lan
  rw [bigSep_univ_prod, bigSep_fin_two, bigSep_fin_two, bigSep_fin_two]
  rfl

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

section Arrays

variable {sp : Space} (M : Memref sig .tc sp S8192x1024 .f32) (c : Dev nD)

/-- Whole to blocks, at known contents. -/
theorem blocks_of (X : S8192x1024.Idx → Elt F .f32) :
    (ownsTc c M fullShare X : sProp 𝕄)
      ⊢ bigSep Finset.univ fun k : Fin 4 => lan fun d t => blkAt M c d (ups d c k) t fullShare
          (fun j => X ((rect512 (bo d (ups d c k) t) (bo_in _ _ _)).emb j)) := by
  refine (owns_rects (c : Thread nD τ) M fullShare (blkRect c) (fun _ _ => rfl) (blk_disjoint c) (blk_cover c) X).trans ?_
  rw [bigSep_univ_prod]
  exact .rfl

/-- Whole to blocks, whatever they hold. -/
theorem blocks_any (X : S8192x1024.Idx → Elt F .f32) :
    (ownsTc c M fullShare X : sProp 𝕄) ⊢ bigSep Finset.univ fun k : Fin 4 => lan fun d t => blkAny M c d (ups d c k) t :=
  (blocks_of M c X).trans (bigSep_mono fun k _ => lan_mono fun d t => by
    unfold blkAny; iintro H; iexists _; iexact H)

/-- Blocks at known contents to the whole, at contents that have them. -/
theorem whole_of (Y : Fin 2 → Dev nD → Fin 2 → BV F) :
    (bigSep Finset.univ fun k : Fin 4 => lan fun d t => blkAt M c d (ups d c k) t fullShare (Y d (ups d c k) t))
      ⊢ (iprop(∃ X : S8192x1024.Idx → Elt F .f32, ⌜∀ d q t, (fun j => X ((rect512 (bo d q t) (bo_in d q t)).emb j)) = Y d q t⌝
          ∗ ownsTc c M fullShare X) : sProp 𝕄) := by
  have h1 : (bigSep Finset.univ fun k : Fin 4 => lan fun d t => blkAt M c d (ups d c k) t fullShare (Y d (ups d c k) t))
      ⊢ (bigSep Finset.univ fun x : BIx => ownsSat (c : Thread nD τ) (M.slice (blkRect c x) (fun _ => rfl)) fullShare
          (fun Z => Z = Y x.2.1 (ups x.2.1 c x.1) x.2.2) : sProp 𝕄) := by
    rw [bigSep_univ_prod]
    exact bigSep_mono fun k _ => bigSep_mono fun l _ => ownsSat_intro _ _ _ rfl
  refine h1.trans ((ownsSat_of_rects (c : Thread nD τ) M fullShare (blkRect c) (fun _ _ => rfl) (blk_disjoint c) (blk_cover c) _).trans ?_)
  refine (ownsSat_elim _ _ _ _).trans ?_
  iintro ⟨%X, %hX, H⟩
  iexists X
  isplitr
  · ipureintro
    intro d q t
    obtain ⟨k, rfl⟩ := ups_surj d c q
    exact hX (k, d, t)
  · iexact H

theorem whole_any :
    (bigSep Finset.univ fun k : Fin 4 => lan fun d t => blkAny (F := F) M c d (ups d c k) t)
      ⊢ (iprop(∃ X : S8192x1024.Idx → Elt F .f32, ownsTc c M fullShare X) : sProp 𝕄) := by
  have h1 : (bigSep Finset.univ fun k : Fin 4 => lan fun d t => blkAny (F := F) M c d (ups d c k) t)
      ⊢ (bigSep Finset.univ fun x : BIx => ownsSat (c : Thread nD τ) (M.slice (blkRect c x) (fun _ => rfl)) fullShare
          (fun _ => True) : sProp 𝕄) := by
    rw [bigSep_univ_prod]
    refine bigSep_mono fun k _ => bigSep_mono fun l _ => ?_
    show (iprop(∃ X, owns (c : Thread nD τ) (M.slice (blkRect c (k, l)) (fun _ => rfl)) fullShare X) : sProp 𝕄) ⊢ _
    iintro ⟨%X, H⟩
    iapply (ownsSat_intro (c : Thread nD τ) (M.slice (blkRect c (k, l)) (fun _ => rfl)) fullShare (X := X) trivial)
    iexact H
  refine h1.trans ((ownsSat_of_rects (c : Thread nD τ) M fullShare (blkRect c) (fun _ _ => rfl) (blk_disjoint c) (blk_cover c) _).trans ?_)
  exact ownsSat_any _ _ _

/-! ## A chunk is its halves -/

theorem chk_set (d : Fin 2) (q : Dev nD) : (rect1024 (co d q) (co_in d q)).set
    = (rect512 (bo d q 0) (bo_in d q 0)).set ∪ (rect512 (bo d q 1) (bo_in d q 1)).set := by
  ext i
  rw [Finset.mem_union, mem_blk, mem_blk, mem_chk]
  show _ ↔ (_ + 512 * 0 ≤ _ ∧ _ < _ + 512 * 0 + 512) ∨ (_ + 512 * 1 ≤ _ ∧ _ < _ + 512 * 1 + 512)
  omega
theorem halves_disjoint (d : Fin 2) (q : Dev nD) :
    Disjoint (rect512 (bo d q 0) (bo_in d q 0)).set (rect512 (bo d q 1) (bo_in d q 1)).set := by
  refine Finset.disjoint_left.mpr fun i hi hj => ?_
  have hi := (mem_blk.mp hi).2
  have hj := (mem_blk.mp hj).1
  simp only [Fin.val_zero, Fin.val_one] at hi hj
  omega

theorem chk_halves (d : Fin 2) (q : Dev nD) (g : M.view.ty.Contents (Elt F)) :
    (chkAt M c d q (fun j => M.view.read (Elt F) g ((rect1024 (co d q) (co_in d q)).emb j)) : sProp 𝕄)
      = iprop(blkAt M c d q 0 fullShare (fun j => M.view.read (Elt F) g ((rect512 (bo d q 0) (bo_in d q 0)).emb j))
          ∗ blkAt M c d q 1 fullShare (fun j => M.view.read (Elt F) g ((rect512 (bo d q 1) (bo_in d q 1)).emb j))) := by
  unfold chkAt blkAt
  have e1 := owns_slice_read (Ix := Unit) (Name := ℕ) (U := UU) (Lvl := ℕ) (c : Thread nD τ) M fullShare (rect1024 (co d q) (co_in d q)) (fun _ => rfl) g
  have e2 (t : Fin 2) := owns_slice_read (Ix := Unit) (Name := ℕ) (U := UU) (Lvl := ℕ) (c : Thread nD τ) M fullShare (rect512 (bo d q t) (bo_in d q t)) (fun _ => rfl) g
  refine e1.trans (Eq.trans ?_ (congrArg₂ _ (e2 0).symm (e2 1).symm))
  rw [View.set_slice, View.set_slice, View.set_slice, chk_set, Finset.map_union]
  have hd : Disjoint ((rect512 (bo d q 0) (bo_in d q 0)).set.map M.view.emb) ((rect512 (bo d q 1) (bo_in d q 1)).set.map M.view.emb) :=
    (Finset.disjoint_map _).mpr (halves_disjoint d q)
  have hu := pointsTo_union (Ix := Unit) (Name := ℕ) (U := UU) (Lvl := ℕ) (ℓ := M.view.loc (c : Thread nD τ)) (q := fullShare) (f := g) hd
  exact hu.1.antisymm hu.2

end Arrays

/-! ## The landing slots -/

abbrev SIx : Type := Fin 3 × Lane
abbrev sRect (x : SIx) : Rect S2x3x2x512x1024 := slotRect x.2.1 x.1 x.2.2

theorem mem_slot {d : Fin 2} {h : Fin 3} {t : Fin 2} {i : S2x3x2x512x1024.Idx} :
    i ∈ (slotRect d h t).set ↔ (i 0).val = d.val ∧ (i 1).val = h.val ∧ (i 2).val = t.val := by
  rw [Rect.mem_set_unit]
  have h3 : (i 3).val < 512 := (i 3).isLt
  have h4 : (i 4).val < 1024 := (i 4).isLt
  constructor
  · intro hh
    have a0 : d.val ≤ (i 0).val ∧ (i 0).val < d.val + 1 := hh 0
    have a1 : h.val ≤ (i 1).val ∧ (i 1).val < h.val + 1 := hh 1
    have a2 : t.val ≤ (i 2).val ∧ (i 2).val < t.val + 1 := hh 2
    omega
  · rintro ⟨h0, h1, h2⟩ a
    match a with
    | 0 => show d.val ≤ (i 0).val ∧ (i 0).val < d.val + 1; omega
    | 1 => show h.val ≤ (i 1).val ∧ (i 1).val < h.val + 1; omega
    | 2 => show t.val ≤ (i 2).val ∧ (i 2).val < t.val + 1; omega
    | 3 => exact ⟨Nat.zero_le _, by show (i 3).val < 0 + 512; omega⟩
    | 4 => exact ⟨Nat.zero_le _, by show (i 4).val < 0 + 1024; omega⟩

theorem slot_disjoint (x y : SIx) (hne : x ≠ y) : Disjoint (sRect x).set (sRect y).set := by
  obtain ⟨h, d, t⟩ := x
  obtain ⟨h', d', t'⟩ := y
  refine Finset.disjoint_left.mpr fun i hi hj => hne ?_
  obtain ⟨a0, a1, a2⟩ := mem_slot.mp hi
  obtain ⟨b0, b1, b2⟩ := mem_slot.mp hj
  have e0 : d = d' := Fin.ext (a0.symm.trans b0)
  have e1 : h = h' := Fin.ext (a1.symm.trans b1)
  have e2 : t = t' := Fin.ext (a2.symm.trans b2)
  rw [e0, e1, e2]

theorem slot_cover : (Finset.univ : Finset SIx).biUnion (fun x => (sRect x).set) = Finset.univ :=
  Finset.eq_univ_iff_forall.mpr fun i =>
    Finset.mem_biUnion.mpr ⟨(⟨(i 1).val, (i 1).isLt⟩, ⟨(i 0).val, (i 0).isLt⟩, ⟨(i 2).val, (i 2).isLt⟩), Finset.mem_univ _,
      mem_slot.mpr ⟨rfl, rfl, rfl⟩⟩

theorem slots_of (c : Dev nD) (X : S2x3x2x512x1024.Idx → Elt F .f32) :
    (ownsTc c sM fullShare X : sProp 𝕄) ⊢ bigSep Finset.univ fun h : Fin 3 => lan fun d t => slotAny (F := F) c d h t := by
  refine (owns_rects (c : Thread nD τ) sM fullShare sRect (fun _ _ => rfl) slot_disjoint slot_cover X).trans ?_
  rw [bigSep_univ_prod]
  refine bigSep_mono fun h _ => bigSep_mono fun l _ => ?_
  show owns (c : Thread nD τ) (sM.slice (sRect (h, l)) (fun _ => rfl)) fullShare _ ⊢ slotAny (F := F) c l.1 h l.2
  unfold slotAny slotAt ownsTc owns
  iintro ⟨%f, -, H⟩
  iexists _
  iexists f
  isplitr
  · ipureintro; rfl
  · rw [show (slot l.1 h l.2).view.set = (sM.slice (sRect (h, l)) (fun _ => rfl)).view.set from View.set_reshape _ _]
    iexact H

theorem of_slots (c : Dev nD) :
    (bigSep Finset.univ fun h : Fin 3 => lan fun d t => slotAny (F := F) c d h t)
      ⊢ (iprop(∃ X : S2x3x2x512x1024.Idx → Elt F .f32, ownsTc c sM fullShare X) : sProp 𝕄) := by
  have h1 : (bigSep Finset.univ fun h : Fin 3 => lan fun d t => slotAny (F := F) c d h t)
      ⊢ (bigSep Finset.univ fun x : SIx => ownsSat (c : Thread nD τ) (sM.slice (sRect x) (fun _ => rfl)) fullShare
          (fun _ => True) : sProp 𝕄) := by
    rw [bigSep_univ_prod]
    refine bigSep_mono fun h _ => bigSep_mono fun l _ => ?_
    show slotAny (F := F) c l.1 h l.2 ⊢ _
    unfold slotAny slotAt ownsTc owns
    iintro ⟨%X, %f, -, H⟩
    iapply (ownsSat_intro (c : Thread nD τ) (sM.slice (sRect (h, l)) (fun _ => rfl)) fullShare
      (X := (sM.slice (sRect (h, l)) (fun _ => rfl)).view.read (Elt F) f) trivial)
    iapply (owns_intro (c : Thread nD τ) (sM.slice (sRect (h, l)) (fun _ => rfl)) fullShare f)
    rw [show (slot l.1 h l.2).view.set = (sM.slice (sRect (h, l)) (fun _ => rfl)).view.set from View.set_reshape _ _]
    iexact H
  refine h1.trans ((ownsSat_of_rects (c : Thread nD τ) sM fullShare sRect (fun _ _ => rfl) slot_disjoint slot_cover _).trans ?_)
  exact ownsSat_any _ _ _

end Cert.AllReduce

end
-- ==== Proof.Groups.lean ====
/-
# The groups

The kernel's text goes over the lanes, the directions and the halves; here the pieces are put together group by group.
-/
module

public import proofs.«01_k».proof.Proof.Lanes
public import proofs.«01_k».proof.Proof.Geo

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One assertion per direction, or per half. -/
def both (Φ : Fin 2 → sProp 𝕄) : sProp 𝕄 := bigSep Finset.univ Φ
theorem both_eq (Φ : Fin 2 → sProp 𝕄) : both Φ = iprop(Φ 0 ∗ Φ 1) := bigSep_fin_two Φ
theorem both_sep (Φ Ψ : Fin 2 → sProp 𝕄) : both (fun d => iprop(Φ d ∗ Ψ d)) = iprop(both Φ ∗ both Ψ) := bigSep_sep _ _ _
theorem both_mono {Φ Ψ : Fin 2 → sProp 𝕄} (h : ∀ d, Φ d ⊢ Ψ d) : both Φ ⊢ both Ψ := bigSep_mono fun d _ => h d
theorem lan_both (Φ : Fin 2 → Fin 2 → sProp 𝕄) : lan Φ = both fun d => both fun t => Φ d t := by
  rw [lan_eq, both_eq, both_eq, both_eq]

section

variable (m : (ℓ : Loc nD τ sig) → Buf (Elt F) ℓ) (K : Dev nD × Option Ch → ℕ) (c : Dev nD)

/-! ## Over directions, halves, lanes -/

section Over

variable {m K c}

theorem two_tr {A B : Fin 2 → sProp 𝕄} {R : sProp 𝕄} {f : Fin 2 → PG F PUnit}
    (hf : ∀ d, Tr m K c iprop(A d ∗ R) (f d) iprop(B d ∗ R)) :
    Tr m K c iprop(both A ∗ R) (f 0 >>= fun _ => f 1) iprop(both B ∗ R) := by
  rw [both_eq, both_eq]
  have h0 := hf 0
  have h1 := hf 1
  unfold Tr
  iintro ⟨#HR, ⟨H0, H1⟩, HO⟩
  iapply h0.step $$ [H0 HO]
  · isplitr; · iexact HR
    isplitl [H0]; · iexact H0
    iexact HO
  iintro ⟨H0, HO⟩
  iapply h1.last $$ [H1 HO]
  · isplitr; · iexact HR
    isplitl [H1]; · iexact H1
    iexact HO
  iintro ⟨H1, HO⟩
  isplitl [H0 H1]
  · isplitl [H0]; · iexact H0
    iexact H1
  iexact HO

/-- Lanes, with what remains owed before each given. -/
theorem lanes_gen {A B : Fin 2 → Fin 2 → sProp 𝕄} {f : Fin 2 → Fin 2 → PG F PUnit} (R0 R1 R2 R3 R4 : sProp 𝕄)
    (h0 : Tr m K c iprop(A 0 0 ∗ R0) (f 0 0) iprop(B 0 0 ∗ R1)) (h1 : Tr m K c iprop(A 1 0 ∗ R1) (f 1 0) iprop(B 1 0 ∗ R2))
    (h2 : Tr m K c iprop(A 0 1 ∗ R2) (f 0 1) iprop(B 0 1 ∗ R3)) (h3 : Tr m K c iprop(A 1 1 ∗ R3) (f 1 1) iprop(B 1 1 ∗ R4)) :
    Tr m K c iprop(lan A ∗ R0) (lanes f) iprop(lan B ∗ R4) := by
  rw [lan_eq, lan_eq]
  unfold Tr lanes
  iintro ⟨#HR, ⟨⟨H0, H2⟩, H1, H3⟩, HO⟩
  iapply h0.step $$ [H0 HO]
  · isplitr; · iexact HR
    isplitl [H0]; · iexact H0
    iexact HO
  iintro ⟨H0, HO⟩
  iapply h1.step $$ [H1 HO]
  · isplitr; · iexact HR
    isplitl [H1]; · iexact H1
    iexact HO
  iintro ⟨H1, HO⟩
  iapply h2.step $$ [H2 HO]
  · isplitr; · iexact HR
    isplitl [H2]; · iexact H2
    iexact HO
  iintro ⟨H2, HO⟩
  iapply h3.last $$ [H3 HO]
  · isplitr; · iexact HR
    isplitl [H3]; · iexact H3
    iexact HO
  iintro ⟨H3, HO⟩
  isplitr [HO]
  · isplitl [H0 H2]
    · isplitl [H0]; · iexact H0
      iexact H2
    isplitl [H1]; · iexact H1
    iexact H3
  iexact HO

/-- Each lane sends at hop `h`. -/
theorem lanes_tr (h : Fin 6) {A B : Fin 2 → Fin 2 → sProp 𝕄} {f : Fin 2 → Fin 2 → PG F PUnit} (l : List Hop) (hl : ∀ a ∈ l, h.val ≤ a.1.val)
    (hf : ∀ d t l, (∀ a ∈ l, h.val ≤ a.1.val) → Tr m K c iprop(A d t ∗ owing c ((h, d, t) :: l)) (f d t) iprop(B d t ∗ owing c l)) :
    Tr m K c iprop(lan A ∗ owing c (lanesOf h ++ l)) (lanes f) iprop(lan B ∗ owing c l) := by
  have more {l : List Hop} (d t : Fin 2) (hl : ∀ a ∈ l, h.val ≤ a.1.val) : ∀ a ∈ ((h, d, t) :: l : List Hop), h.val ≤ a.1.val :=
    fun a ha => by
      rcases List.mem_cons.mp ha with rfl | ha
      · exact Nat.le_refl _
      · exact hl a ha
  exact lanes_gen _ _ _ _ _ (hf 0 0 _ (more 1 0 (more 0 1 (more 1 1 hl)))) (hf 1 0 _ (more 0 1 (more 1 1 hl))) (hf 0 1 _ (more 1 1 hl)) (hf 1 1 l hl)

/-- No lane sends. -/
theorem lanes_keep {A B : Fin 2 → Fin 2 → sProp 𝕄} {R : sProp 𝕄} {f : Fin 2 → Fin 2 → PG F PUnit}
    (hf : ∀ d t, Tr m K c iprop(A d t ∗ R) (f d t) iprop(B d t ∗ R)) :
    Tr m K c iprop(lan A ∗ R) (lanes f) iprop(lan B ∗ R) :=
  lanes_gen _ _ _ _ _ (hf 0 0) (hf 1 0) (hf 0 1) (hf 1 1)

end Over

/-! ## The groups of the text -/

theorem hops_le {n : ℕ} {h : Fin 6} (hh : h.val ≤ n) (hn : n ≤ 6) : ∀ a ∈ hopsFrom n, h.val ≤ a.1.val := by
  have : ∀ n : Fin 7, ∀ a ∈ hopsFrom n.val, n.val ≤ a.1.val := by decide
  exact fun a ha => Nat.le_trans hh (this ⟨n, by omega⟩ a ha)

/-- The loads start. -/
theorem loads_tr : Tr m K c
    iprop((both (fun d => iprop(ready c (chLoad 1 d) ∗ chkAt xM c d (ups d c 1) (chkX m c d (ups d c 1)) ∗ chkAny aM c d (ups d c 1)))
      ∗ both (fun d => iprop(ready c (chLoad 2 d) ∗ chkAt xM c d (ups d c 2) (chkX m c d (ups d c 2)) ∗ chkAny aM c d (ups d c 2)))
      ∗ both (fun d => iprop(ready c (chLoad 3 d) ∗ chkAt xM c d (ups d c 3) (chkX m c d (ups d c 3)) ∗ chkAny aM c d (ups d c 3)))) ∗ emp)
    (gLoads c)
    iprop((both (fun d => flying c (chLoad 1 d)) ∗ both (fun d => flying c (chLoad 2 d)) ∗ both (fun d => flying c (chLoad 3 d))) ∗ emp) := by
  have h1 := two_tr (R := iprop(emp)) fun d => (load_tr m K c d 1 (by decide) (offL_in d c 0) (offL_eq d c 0)).frame
  have h2 := two_tr (R := iprop(emp)) fun d => (load_tr m K c d 2 (by decide) (offL_in d c 1) (offL_eq d c 1)).frame
  have h3 := two_tr (R := iprop(emp)) fun d => (load_tr m K c d 3 (by decide) (offL_in d c 2) (offL_eq d c 2)).frame
  unfold Tr gLoads dirs
  iintro ⟨#HR, ⟨H1, H2, H3⟩, -⟩
  iapply h1.step $$ [H1]
  · isplitr; · iexact HR
    isplitl [H1]; · iexact H1
    iempintro
  iintro ⟨H1, -⟩
  iapply h2.step $$ [H2]
  · isplitr; · iexact HR
    isplitl [H2]; · iexact H2
    iempintro
  iintro ⟨H2, -⟩
  iapply h3.last $$ [H3]
  · isplitr; · iexact HR
    isplitl [H3]; · iexact H3
    iempintro
  iintro ⟨H3, -⟩
  isplitr []
  · isplitl [H1]; · iexact H1
    isplitl [H2]; · iexact H2
    iexact H3
  · iempintro

/-- The loads of hop `r` have landed. -/
theorem loaded_tr (r : Fin 3) (l : List Hop) : Tr m K c
    iprop(both (fun d => flying c (chLoad r.succ d)) ∗ owing c l) (gLoaded c r)
    iprop(both (fun d => iprop(spent c (chLoad r.succ d) ∗ loadPay m c d r.succ)) ∗ owing c l) :=
  two_tr fun d => (loadWait_tr m K c d l (offL_in d c r) r.succ (Fin.succ_ne_zero r)).post (by
    iintro ⟨H1, H2, H3⟩
    isplitl [H1 H2]
    · isplitl [H1]; · iexact H1
      iexact H2
    iexact H3)

/-- What the stores of a direction's block give back. -/
theorem stored_tr : Tr m K c
    iprop(both (fun d => iprop(both (fun t => flying c (chStore 0 d t)) ∗ both (fun t => flying c (chStore 1 d t))
      ∗ both (fun t => flying c (chStore 2 d t)) ∗ both (fun t => flying c (chStore 3 d t)))) ∗ owing c []) (gStored c)
    iprop(both (fun d => iprop(both (fun t => iprop(spent c (chStore 0 d t) ∗ storePay m c d t 0)) ∗ both (fun t => iprop(spent c (chStore 1 d t) ∗ storePay m c d t 1))
      ∗ both (fun t => iprop(spent c (chStore 2 d t) ∗ storePay m c d t 2)) ∗ both (fun t => iprop(spent c (chStore 3 d t) ∗ storePay m c d t 3)))) ∗ owing c []) := by
  refine two_tr (F := F) (f := fun d => lStored c d 0 >>= fun _ => lStored c d 1 >>= fun _ => lStored c d 2 >>= fun _ => lStored c d 3) fun d => ?_
  have h (k : Fin 4) : Tr m K c iprop(both (fun t => flying c (chStore k d t)) ∗ owing c []) (lStored c d k)
      iprop(both (fun t => iprop(spent c (chStore k d t) ∗ storePay m c d t k)) ∗ owing c []) :=
    two_tr fun t => (storeWait_tr m K c d t (offB_in d c k t) [] k).post (by
      iintro ⟨H1, H2, H3⟩
      isplitl [H1 H2]
      · isplitl [H1]; · iexact H1
        iexact H2
      iexact H3)
  have h0 := h 0
  have h1 := h 1
  have h2 := h 2
  have h3 := h 3
  unfold Tr
  iintro ⟨#HR, ⟨H0, H1, H2, H3⟩, HO⟩
  iapply h0.step $$ [H0 HO]
  · isplitr; · iexact HR
    isplitl [H0]; · iexact H0
    iexact HO
  iintro ⟨H0, HO⟩
  iapply h1.step $$ [H1 HO]
  · isplitr; · iexact HR
    isplitl [H1]; · iexact H1
    iexact HO
  iintro ⟨H1, HO⟩
  iapply h2.step $$ [H2 HO]
  · isplitr; · iexact HR
    isplitl [H2]; · iexact H2
    iexact HO
  iintro ⟨H2, HO⟩
  iapply h3.last $$ [H3 HO]
  · isplitr; · iexact HR
    isplitl [H3]; · iexact H3
    iexact HO
  iintro ⟨H3, HO⟩
  isplitr [HO]
  · isplitl [H0]; · iexact H0
    isplitl [H1]; · iexact H1
    isplitl [H2]; · iexact H2
    iexact H3
  iexact HO

/-- What the waits for the sends of hop `h` give back. -/
def sent (h : Fin 6) : sProp 𝕄 := lan fun d t => iprop(spent c (chSend h d t) ∗ sendPay m c d t h)

theorem sents_tr : Tr m K c
    iprop((lan (fun d t => flying c (chSend 0 d t)) ∗ lan (fun d t => flying c (chSend 1 d t)) ∗ lan (fun d t => flying c (chSend 2 d t))
      ∗ lan (fun d t => flying c (chSend 3 d t)) ∗ lan (fun d t => flying c (chSend 4 d t)) ∗ lan (fun d t => flying c (chSend 5 d t))) ∗ owing c [])
    (gSent c)
    iprop((sent m c 0 ∗ sent m c 1 ∗ sent m c 2 ∗ sent m c 3 ∗ sent m c 4 ∗ sent m c 5) ∗ owing c []) := by
  have g {h : Fin 6} {d t : Fin 2} {p : PG F PUnit}
      (hp : Tr m K c iprop(flying c (chSend h d t) ∗ owing c []) p iprop(spent c (chSend h d t) ∗ sendPay m c d t h ∗ owing c [])) :
      Tr m K c iprop(flying c (chSend h d t) ∗ owing c []) p iprop((spent c (chSend h d t) ∗ sendPay m c d t h) ∗ owing c []) :=
    hp.post (by
      iintro ⟨H1, H2, H3⟩
      isplitl [H1 H2]
      · isplitl [H1]; · iexact H1
        iexact H2
      iexact H3)
  have h0 := lanes_keep fun d t => g (sentX_tr m K c d t (offX_in d c t) [] 0 0)
  have h1 := lanes_keep fun d t => g (sentS_tr m K c d t (offB_in d c 1 t) [] 1 1)
  have h2 := lanes_keep fun d t => g (sentS_tr m K c d t (offB_in d c 2 t) [] 2 2)
  have h3 := lanes_keep fun d t => g (sentA_tr m K c d t (offB_in d c 3 t) [] 3)
  have h4 := lanes_keep fun d t => g (sentA_tr m K c d t (offB_in d c 0 t) [] 4)
  have h5 := lanes_keep fun d t => g (sentA_tr m K c d t (offB_in d c 1 t) [] 5)
  unfold Tr gSent sent
  iintro ⟨#HR, ⟨H0, H1, H2, H3, H4, H5⟩, HO⟩
  iapply h0.step $$ [H0 HO]
  · isplitr; · iexact HR
    isplitl [H0]; · iexact H0
    iexact HO
  iintro ⟨H0, HO⟩
  iapply h1.step $$ [H1 HO]
  · isplitr; · iexact HR
    isplitl [H1]; · iexact H1
    iexact HO
  iintro ⟨H1, HO⟩
  iapply h2.step $$ [H2 HO]
  · isplitr; · iexact HR
    isplitl [H2]; · iexact H2
    iexact HO
  iintro ⟨H2, HO⟩
  iapply h3.step $$ [H3 HO]
  · isplitr; · iexact HR
    isplitl [H3]; · iexact H3
    iexact HO
  iintro ⟨H3, HO⟩
  iapply h4.step $$ [H4 HO]
  · isplitr; · iexact HR
    isplitl [H4]; · iexact H4
    iexact HO
  iintro ⟨H4, HO⟩
  iapply h5.last $$ [H5 HO]
  · isplitr; · iexact HR
    isplitl [H5]; · iexact H5
    iexact HO
  iintro ⟨H5, HO⟩
  isplitr [HO]
  · isplitl [H0]; · iexact H0
    isplitl [H1]; · iexact H1
    isplitl [H2]; · iexact H2
    isplitl [H3]; · iexact H3
    isplitl [H4]; · iexact H4
    iexact H5
  iexact HO

/-! ## The handshake -/

theorem barPay_inn0 : barPay (F := F) (inn 0 c) 0 = iprop(lanePay c 0 0 ∗ lanePay c 0 1) := by
  unfold barPay; simp only [ups_ups, Fin.reduceAdd, ups_zero]
theorem barPay_inn1 : barPay (F := F) (inn 1 c) 1 = iprop(lanePay c 1 0 ∗ lanePay c 1 1) := by
  unfold barPay; simp only [ups_ups, Fin.reduceAdd, ups_zero]

theorem lev_bar (l : List Hop) : ∀ a ∈ l, lev none < 2 + a.1.val := fun a _ => by show 1 < 2 + a.1.val; omega

theorem bar_mem (n : Dev nD) (d : Fin 2) : d ∈ (rd (F := F) m).duties ((n : Thread nD τ), SemLoc.reg barS) 0 :=
  (Finset.ext_iff.mp (duties_cell m n none) d).mpr (Finset.mem_univ d)
theorem bar_pay (n : Dev nD) (d : Fin 2) : barPay (F := F) n d ⊢ (rd m).payload ((n : Thread nD τ), SemLoc.reg barS) 0 d :=
  Entails.of_eq (payload_cell m n none d).symm

/-- Each neighbour is told that its lanes may come; theirs are awaited. -/
theorem barrier_tr : Tr m K c
    iprop(dutyTok ER (cell (inn 0 c) none) 0 0 ∗ dutyTok ER (cell (inn 1 c) none) 0 1 ∗ cred (tallyAt (cell c none) () 2)
      ∗ atPos ER (cell c none) 0 ∅ 0 ∗ lan (fun d t => lanePay c d t) ∗ ∃ W, owes (c : Thread nD τ) (O₀ c) W)
    (gBarrier c)
    iprop(semVal (cell c none) 0 ∗ lan (fun d t => lanePay (out d c) d t) ∗ owing c (hopsFrom 0)) := by
  rw [lan_eq, lan_eq]
  have e1 : tgt 1 c = inn 0 c := (tgt_eq 1 c).trans (ups_rev' c).symm
  have e0 : tgt 0 c = inn 1 c := (tgt_eq 0 c).trans (ups_rev c).symm
  unfold Tr gBarrier owing
  rw [e1, e0]
  simp only [semSignalWord, semWaitWord, Prog.lift, Prog.bind_op, Prog.bind_ret, Prog.pure_eq_ret]
  iintro ⟨#HR, Ht0, Ht1, Hc, Ha, ⟨HL0, HL1⟩, %W, HO⟩
  iapply (Rounds.wp_signal 𝒱₀ ER (rd m) (c : Thread nD τ) none (dst := (inn 0 c : Thread nD τ)) (κ := K (inn 0 c, none)) (r := 0)
      (d := 0) (bar_mem m (inn 0 c) 0) ((amount_cell m (inn 0 c) none 0).trans (by decide)) () (O₁ c) rfl) $$ [HO Ht0 HL0]
  · isplitr; · iapply (records_inv m K (inn 0 c) none); iexact HR
    isplitl [HO]; · iexact HO
    isplitl [Ht0]; · iexact Ht0
    isplitl [HL0]
    · iapply (bar_pay m (inn 0 c) 0)
      iapply (Entails.of_eq (barPay_inn0 c).symm)
      iexact HL0
    iapply (records_reached m K (inn 0 c) none); iexact HR
  iintro HO
  iapply (Rounds.wp_signal 𝒱₀ ER (rd m) (c : Thread nD τ) none (dst := (inn 1 c : Thread nD τ)) (κ := K (inn 1 c, none)) (r := 0)
      (d := 1) (bar_mem m (inn 1 c) 1) ((amount_cell m (inn 1 c) none 1).trans (by decide)) () (owed c (hopsFrom 0)) rfl) $$ [HO Ht1 HL1]
  · isplitr; · iapply (records_inv m K (inn 1 c) none); iexact HR
    isplitl [HO]; · iexact HO
    isplitl [Ht1]; · iexact Ht1
    isplitl [HL1]
    · iapply (bar_pay m (inn 1 c) 1)
      iapply (Entails.of_eq (barPay_inn1 c).symm)
      iexact HL1
    iapply (records_reached m K (inn 1 c) none); iexact HR
  iintro HO
  iapply (Rounds.wp_wait_rest_token 𝒱₀ ER (rd m) (c : Thread nD τ) none (κ := K (c, none))
      (wpE_semWait_eq 𝒱₀ (c : Thread nD τ) none Set.univ) (Set.mem_univ _) () (O := owed c (hopsFrom 0)) (W := W) (R := 0) (m := 0) (T := ∅)
      ((Nat.zero_add _).trans ((expect_cell m c none).trans (by decide)).symm)) $$ [Hc HO Ha]
  · isplitr; · iapply (records_inv m K c none); iexact HR
    isplitl [Hc]; · iexact Hc
    isplitl [HO]; · iexact HO
    isplitr; · iapply (mayWait c none (hopsFrom 0) (lev_bar _)); iapply (records_lev m K); iexact HR
    iexact Ha
  iintro ⟨HO, Ha, -, Hp⟩
  ihave Hp := (show bigSep ((rd m).duties ((c : Thread nD τ), SemLoc.reg barS) 0 \ ∅) (fun d => (rd m).payload ((c : Thread nD τ), SemLoc.reg barS) 0 d)
    ⊢ iprop(barPay c 0 ∗ barPay c 1) from Entails.of_eq (rest_bar m c)) $$ Hp
  unfold barPay
  imod (Rounds.cell_close ER (rd m) (Set.mem_univ (K (c, none))) (fun h => h) (R := 0 + 1) (duties_later m (cell c none))) $$ [Ha] with Hz
  · isplitr; · iapply (records_inv m K c none); iexact HR
    iexact Ha
  rw [wp_ret]
  iapply fupd_intro
  isplitl [Hz]; · iexact Hz
  isplitl [Hp]; · iexact Hp
  iexists _; iexact HO

end

end Cert.AllReduce

end
-- ==== Proof.Body.lean ====
/-
# The body

The kernel on one device, from its cells and arrays at launch to its arrays at the end: the operand as it was, the
result with every block complete.
-/
module

public import proofs.«01_k».proof.Proof.Groups

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
theorem three (Φ : Fin 3 → sProp 𝕄) : bigSep Finset.univ Φ = iprop(Φ 0 ∗ Φ 1 ∗ Φ 2) := by
  rw [bigSep_univ_eq_bigSepL [0, 1, 2] (by decide) (by decide)]; rfl

/-- All of a device's own cells, by kind. -/
theorem over_cells (Φ : Ch → sProp 𝕄) : bigSep Finset.univ Φ
    = iprop((bigSep Finset.univ fun h : Fin 6 => lan fun d t => Φ (chSend h d t)) ∗ (bigSep Finset.univ fun h : Fin 6 => lan fun d t => Φ (chRecv h d t))
      ∗ (bigSep Finset.univ fun k : Fin 4 => both fun d => Φ (chLoad k d)) ∗ bigSep Finset.univ fun k : Fin 4 => lan fun d t => Φ (chStore k d t)) := by
  rw [bigSep_univ_sum, bigSep_univ_sum, bigSep_univ_sum, bigSep_univ_prod, bigSep_univ_prod, bigSep_univ_prod, bigSep_univ_prod]
  rfl

section

variable (m : (ℓ : Loc nD τ sig) → Buf (Elt F) ℓ) (K : Dev nD × Option Ch → ℕ) (c : Dev nD)

/-! ## Chunks and blocks -/

theorem chunks_eq {sp : Space} (M : Memref sig .tc sp S8192x1024 .f32) (k : Fin 4) (g : M.view.ty.Contents (Elt F)) :
    (lan fun d t => blkAt M c d (ups d c k) t fullShare (fun j => M.view.read (Elt F) g ((rect512 (bo d (ups d c k) t) (bo_in _ _ _)).emb j)) : sProp 𝕄)
      = both fun d => chkAt M c d (ups d c k) (fun j => M.view.read (Elt F) g ((rect1024 (co d (ups d c k)) (co_in _ _)).emb j)) := by
  rw [lan_both]
  exact congrArg both (funext fun d => (both_eq _).trans (chk_halves M c d (ups d c k) g).symm)

theorem x_chunks (k : Fin 4) : (lan fun d t => blkAt xM c d (ups d c k) t fullShare (blkX m c d (ups d c k) t) : sProp 𝕄)
    = both fun d => chkAt xM c d (ups d c k) (chkX m c d (ups d c k)) := chunks_eq c xM k (xAt m c)
theorem a_chunks (k : Fin 4) : (lan fun d t => blkAt aM c d (ups d c k) t fullShare (blkX m c d (ups d c k) t) : sProp 𝕄)
    = both fun d => chkAt aM c d (ups d c k) (chkX m c d (ups d c k)) := chunks_eq c aM k (xAt m c)

/-- The operand: the device's own chunks in blocks, the others whole. -/
theorem x_split : ownsTc c xM fullShare (xAt m c) ⊢ iprop(lan (fun d t => blkAt xM c d (ups d c 0) t fullShare (blkX m c d (ups d c 0) t))
    ∗ both (fun d => chkAt xM c d (ups d c 1) (chkX m c d (ups d c 1))) ∗ both (fun d => chkAt xM c d (ups d c 2) (chkX m c d (ups d c 2)))
    ∗ both (fun d => chkAt xM c d (ups d c 3) (chkX m c d (ups d c 3)))) := by
  refine (blocks_of xM c (xAt m c)).trans ?_
  rw [four, ← x_chunks, ← x_chunks, ← x_chunks]
  exact .rfl

/-- An array is known by its blocks. -/
theorem blocks_ext {X Y : S8192x1024.Idx → Elt F .f32}
    (h : ∀ d q t, (fun j => X ((rect512 (bo d q t) (bo_in d q t)).emb j)) = fun j => Y ((rect512 (bo d q t) (bo_in d q t)).emb j)) : X = Y := by
  funext i
  have hi : i ∈ (Finset.univ : Finset BIx).biUnion (fun x => (blkRect (0 : Dev nD) x).set) := by rw [blk_cover]; exact Finset.mem_univ i
  obtain ⟨x, -, hx⟩ := Finset.mem_biUnion.mp hi
  obtain ⟨j, hj⟩ := LoadRect.exists_idx_of_mem _ hx
  have := congrFun (h x.2.1 (ups x.2.1 0 x.1) x.2.2) j
  rw [← hj]
  exact this

theorem x_join : iprop(lan (fun d t => blkAt xM c d (ups d c 0) t fullShare (blkX m c d (ups d c 0) t))
    ∗ both (fun d => chkAt xM c d (ups d c 1) (chkX m c d (ups d c 1))) ∗ both (fun d => chkAt xM c d (ups d c 2) (chkX m c d (ups d c 2)))
    ∗ both (fun d => chkAt xM c d (ups d c 3) (chkX m c d (ups d c 3)))) ⊢ ownsTc c xM fullShare (xAt m c) := by
  have h := whole_of xM c (fun d q t => blkX m c d q t)
  rw [four] at h
  rw [← x_chunks, ← x_chunks, ← x_chunks]
  refine h.trans ?_
  iintro ⟨%X, %hX, H⟩
  rw [show xAt m c = X from (blocks_ext hX).symm]
  iexact H

/-- The accumulator at launch, and at the end. -/
theorem a_split : (iprop(∃ Y : S8192x1024.Idx → Elt F .f32, ownsTc c aM fullShare Y) : sProp 𝕄) ⊢ iprop(lan (fun d t => blkAny (F := F) aM c d (ups d c 0) t)
    ∗ both (fun d => chkAny aM c d (ups d c 1)) ∗ both (fun d => chkAny aM c d (ups d c 2)) ∗ both (fun d => chkAny aM c d (ups d c 3))) := by
  have hc (k : Fin 4) (Y : S8192x1024.Idx → Elt F .f32) :
      (both fun d => chkAt aM c d (ups d c k) (fun j => Y ((rect1024 (co d (ups d c k)) (co_in _ _)).emb j)) : sProp 𝕄)
        ⊢ both fun d => chkAny aM c d (ups d c k) := both_mono fun d => by unfold chkAny; iintro H; iexists _; iexact H
  have hb (Y : S8192x1024.Idx → Elt F .f32) :
      (lan fun d t => blkAt aM c d (ups d c 0) t fullShare (fun j => Y ((rect512 (bo d (ups d c 0) t) (bo_in _ _ _)).emb j)) : sProp 𝕄)
        ⊢ lan fun d t => blkAny aM c d (ups d c 0) t := lan_mono fun d t => by unfold blkAny; iintro H; iexists _; iexact H
  have hk (k : Fin 4) (Y : S8192x1024.Idx → Elt F .f32) :
      (lan fun d t => blkAt aM c d (ups d c k) t fullShare (fun j => Y ((rect512 (bo d (ups d c k) t) (bo_in _ _ _)).emb j)) : sProp 𝕄)
        ⊢ both fun d => chkAny aM c d (ups d c k) := (Entails.of_eq (chunks_eq c aM k Y)).trans (hc k Y)
  iintro ⟨%Y, H⟩
  ihave H := (blocks_of aM c Y) $$ H
  ihave H := (Entails.of_eq (four _)) $$ H
  icases H with ⟨H0, H1, H2, H3⟩
  isplitl [H0]; · iapply (hb Y); iexact H0
  isplitl [H1]; · iapply (hk 1 Y); iexact H1
  isplitl [H2]; · iapply (hk 2 Y); iexact H2
  iapply (hk 3 Y); iexact H3

theorem any_of {sp : Space} (M : Memref sig .tc sp S8192x1024 .f32) (k : Fin 4) (Y : Fin 2 → Fin 2 → BV F) :
    (lan fun d t => blkAt M c d (ups d c k) t fullShare (Y d t) : sProp 𝕄) ⊢ lan fun d t => blkAny M c d (ups d c k) t :=
  lan_mono fun d t => by unfold blkAny; iintro H; iexists _; iexact H
theorem any_join {sp : Space} (M : Memref sig .tc sp S8192x1024 .f32) (k : Fin 4) (Y : Fin 2 → Fin 2 → BV F) :
    iprop(lan (fun d t => blkAt M c d (ups d c k) t fullShare.left (Y d t)) ∗ lan (fun d t => blkAt M c d (ups d c k) t fullShare.right (Y d t)))
      ⊢ (lan fun d t => blkAny M c d (ups d c k) t : sProp 𝕄) := by
  rw [← lan_sep]
  exact (lan_mono fun d t => blk_join c d t M (ups d c k) (Y d t)).trans (any_of c M k Y)

/-! ## The stores, lane by lane -/

theorem stored_lanes : Tr m K c
    iprop((lan (fun d t => flying c (chStore 0 d t)) ∗ lan (fun d t => flying c (chStore 1 d t)) ∗ lan (fun d t => flying c (chStore 2 d t))
      ∗ lan (fun d t => flying c (chStore 3 d t))) ∗ owing c []) (gStored c)
    iprop(((lan (fun d t => spent c (chStore 0 d t)) ∗ lan (fun d t => storePay m c d t 0)) ∗ (lan (fun d t => spent c (chStore 1 d t)) ∗ lan (fun d t => storePay m c d t 1))
      ∗ (lan (fun d t => spent c (chStore 2 d t)) ∗ lan (fun d t => storePay m c d t 2)) ∗ (lan (fun d t => spent c (chStore 3 d t)) ∗ lan (fun d t => storePay m c d t 3))) ∗ owing c []) := by
  have h := stored_tr m K c
  simp only [both_sep, ← lan_both] at h
  exact h

/-! ## From launch to the end -/

/-- What a device has of its cells at launch. -/
def cells (c : Dev nD) : sProp 𝕄 :=
  iprop((dutyTok ER (cell (inn 0 c) none) 0 0 ∗ dutyTok ER (cell (inn 1 c) none) 0 1 ∗ cred (tallyAt (cell c none) () 2) ∗ atPos ER (cell c none) 0 ∅ 0)
    ∗ (bigSep Finset.univ fun h : Fin 6 => lan fun d t => ready c (chSend h d t))
    ∗ (bigSep Finset.univ fun h : Fin 6 => lan fun d t => token c h d t)
    ∗ (bigSep Finset.univ fun h : Fin 6 => lan fun d t => flying c (chRecv h d t))
    ∗ (bigSep Finset.univ fun k : Fin 4 => both fun d => ready c (chLoad k d))
    ∗ (bigSep Finset.univ fun k : Fin 4 => lan fun d t => ready c (chStore k d t)))

/-- What it has at the end: every counter zero, and the arrays. -/
def ended (c : Dev nD) : sProp 𝕄 :=
  iprop(semVal (cell c none) 0 ∗ (bigSep Finset.univ fun i : Ch => spent c i) ∗ ownsTc c xM fullShare (xAt m c)
    ∗ (∃ X, ⌜∀ d q t, (fun j => X ((rect512 (bo d q t) (bo_in d q t)).emb j)) = full m d q t⌝ ∗ ownsTc c oM fullShare X)
    ∗ (∃ Y : S8192x1024.Idx → Elt F .f32, ownsTc c aM fullShare Y) ∗ (∃ Y, ownsTc c sM fullShare Y))

/-- The load of the own chunk does not take place; its cell closes untouched. -/
theorem idle_load (d : Fin 2) : iprop(records m K ∗ ready c (chLoad 0 d)) ⊢ |={Set.univ}=> spent c (chLoad 0 d) := by
  have hd : ∀ r, 0 ≤ r → (rd (F := F) m).duties (ocell c (chLoad 0 d)) r = ∅ := fun r _ => by
    cases r with
    | zero => exact duties_cell m c (some (chLoad 0 d))
    | succ r => exact duties_later m _ _ (Nat.succ_pos r)
  unfold ready spent
  iintro ⟨#HR, -, Ha⟩
  iapply (Rounds.cell_close ER (rd m) (Set.mem_univ (K (c, some (chLoad 0 d)))) (fun h => h) (R := 0) hd)
  isplitr; · iapply (records_inv m K c (some (chLoad 0 d))); iexact HR
  iexact Ha

/-! ## The groups, family by family -/

theorem loads_all : Tr m K c
    iprop((((both fun d => ready c (chLoad 1 d)) ∗ (both fun d => chkAt xM c d (ups d c 1) (chkX m c d (ups d c 1))) ∗ both fun d => chkAny aM c d (ups d c 1))
      ∗ ((both fun d => ready c (chLoad 2 d)) ∗ (both fun d => chkAt xM c d (ups d c 2) (chkX m c d (ups d c 2))) ∗ both fun d => chkAny aM c d (ups d c 2))
      ∗ ((both fun d => ready c (chLoad 3 d)) ∗ (both fun d => chkAt xM c d (ups d c 3) (chkX m c d (ups d c 3))) ∗ both fun d => chkAny aM c d (ups d c 3))) ∗ emp)
    (gLoads c)
    iprop((both (fun d => flying c (chLoad 1 d)) ∗ both (fun d => flying c (chLoad 2 d)) ∗ both (fun d => flying c (chLoad 3 d))) ∗ emp) := by
  have h := loads_tr m K c
  simp only [both_sep] at h
  exact h

theorem loaded_all (r : Fin 3) (l : List Hop) : Tr m K c
    iprop(both (fun d => flying c (chLoad r.succ d)) ∗ owing c l) (gLoaded c r)
    iprop((both (fun d => spent c (chLoad r.succ d)) ∗ (lan fun d t => blkAt aM c d (ups d c r.succ) t fullShare (blkX m c d (ups d c r.succ) t))
      ∗ both (fun d => chkAt xM c d (ups d c r.succ) (chkX m c d (ups d c r.succ)))) ∗ owing c l) := by
  have h := loaded_tr m K c r l
  unfold loadPay at h
  simp only [both_sep] at h
  rw [← a_chunks] at h
  exact h

theorem first_all : Tr m K c
    iprop(((lan fun d t => ready c (chSend 0 d t)) ∗ (lan fun d t => token c 0 d t) ∗ (lan fun d t => blkAt xM c d (ups d c 0) t fullShare (blkX m c d (ups d c 0) t))
      ∗ lan fun d t => slotAny (out d c) d 0 t) ∗ owing c (hopsFrom 0))
    (gHop0 c) iprop((lan fun d t => flying c (chSend 0 d t)) ∗ owing c (hopsFrom 1)) := by
  have h := lanes_tr 0 (hopsFrom 1) (hops_le (by decide) (by decide)) fun d t l _ => first_tr m K c d t l
  simp only [lan_sep] at h
  exact h

theorem hop0_all : Tr m K c
    iprop(((lan fun d t => flying c (chRecv 0 d t)) ∗ (lan fun d t => blkAt aM c d (ups d c 1) t fullShare (blkX m c d (ups d c 1) t))
      ∗ (lan fun d t => ready c (chSend 1 d t)) ∗ (lan fun d t => token c 1 d t) ∗ lan fun d t => slotAny (out d c) d 1 t) ∗ owing c (hopsFrom 1))
    (lanes (lHop c 0 1 1 0 1))
    iprop(((lan fun d t => spent c (chRecv 0 d t)) ∗ (lan fun d t => slotAny c d 0 t) ∗ lan fun d t => flying c (chSend 1 d t)) ∗ owing c (hopsFrom 2)) := by
  have h := lanes_tr 1 (hopsFrom 2) (hops_le (by decide) (by decide)) fun d t l hl => hop0_tr m K c d t l hl
  simp only [lan_sep] at h
  exact h

theorem hop1_all : Tr m K c
    iprop(((lan fun d t => flying c (chRecv 1 d t)) ∗ (lan fun d t => blkAt aM c d (ups d c 2) t fullShare (blkX m c d (ups d c 2) t))
      ∗ (lan fun d t => ready c (chSend 2 d t)) ∗ (lan fun d t => token c 2 d t) ∗ lan fun d t => slotAny (out d c) d 2 t) ∗ owing c (hopsFrom 2))
    (lanes (lHop c 1 2 2 1 2))
    iprop(((lan fun d t => spent c (chRecv 1 d t)) ∗ (lan fun d t => slotAny c d 1 t) ∗ lan fun d t => flying c (chSend 2 d t)) ∗ owing c (hopsFrom 3)) := by
  have h := lanes_tr 2 (hopsFrom 3) (hops_le (by decide) (by decide)) fun d t l hl => hop1_tr m K c d t l hl
  simp only [lan_sep] at h
  exact h

theorem turn_all : Tr m K c
    iprop(((lan fun d t => flying c (chRecv 2 d t)) ∗ (lan fun d t => blkAt aM c d (ups d c 3) t fullShare (blkX m c d (ups d c 3) t))
      ∗ (lan fun d t => ready c (chStore 3 d t)) ∗ (lan fun d t => blkAny oM c d (ups d c 3) t)
      ∗ (lan fun d t => ready c (chSend 3 d t)) ∗ (lan fun d t => token c 3 d t) ∗ lan fun d t => blkAny aM (out d c) d (ups d c 3) t) ∗ owing c (hopsFrom 3))
    (lanes (lTurn c))
    iprop(((lan fun d t => spent c (chRecv 2 d t)) ∗ (lan fun d t => slotAny c d 2 t) ∗ (lan fun d t => flying c (chStore 3 d t))
      ∗ lan fun d t => flying c (chSend 3 d t)) ∗ owing c (hopsFrom 4)) := by
  have h := lanes_tr 3 (hopsFrom 4) (hops_le (by decide) (by decide)) fun d t l hl => turn_tr m K c d t l hl
  simp only [lan_sep] at h
  exact h

theorem pass0_all : Tr m K c
    iprop(((lan fun d t => flying c (chRecv 3 d t)) ∗ (lan fun d t => ready c (chStore 0 d t)) ∗ (lan fun d t => blkAny oM c d (ups d c 0) t)
      ∗ (lan fun d t => ready c (chSend 4 d t)) ∗ lan fun d t => token c 4 d t) ∗ owing c (hopsFrom 4))
    (lanes (lPass c 0 3 4))
    iprop(((lan fun d t => spent c (chRecv 3 d t)) ∗ (lan fun d t => flying c (chStore 0 d t)) ∗ lan fun d t => flying c (chSend 4 d t)) ∗ owing c (hopsFrom 5)) := by
  have h := lanes_tr 4 (hopsFrom 5) (hops_le (by decide) (by decide)) fun d t l hl => pass0_tr m K c d t l hl
  simp only [lan_sep] at h
  exact h

theorem pass1_all : Tr m K c
    iprop(((lan fun d t => flying c (chRecv 4 d t)) ∗ (lan fun d t => ready c (chStore 1 d t)) ∗ (lan fun d t => blkAny oM c d (ups d c 1) t)
      ∗ (lan fun d t => ready c (chSend 5 d t)) ∗ lan fun d t => token c 5 d t) ∗ owing c (hopsFrom 5))
    (lanes (lPass c 1 4 5))
    iprop(((lan fun d t => spent c (chRecv 4 d t)) ∗ (lan fun d t => flying c (chStore 1 d t)) ∗ lan fun d t => flying c (chSend 5 d t)) ∗ owing c []) := by
  have h := lanes_tr 5 [] (fun _ ha => nomatch ha) fun d t l hl => pass1_tr m K c d t l hl
  simp only [lan_sep] at h
  exact h

theorem last_all : Tr m K c
    iprop(((lan fun d t => flying c (chRecv 5 d t)) ∗ (lan fun d t => ready c (chStore 2 d t)) ∗ lan fun d t => blkAny oM c d (ups d c 2) t) ∗ owing c [])
    (lanes (lLast c))
    iprop(((lan fun d t => spent c (chRecv 5 d t)) ∗ lan fun d t => flying c (chStore 2 d t)) ∗ owing c []) := by
  have h := lanes_keep fun d t => last_tr m K c d t
  simp only [lan_sep] at h
  exact h

theorem barrier_all : Tr m K c
    iprop((dutyTok ER (cell (inn 0 c) none) 0 0 ∗ dutyTok ER (cell (inn 1 c) none) 0 1 ∗ cred (tallyAt (cell c none) () 2) ∗ atPos ER (cell c none) 0 ∅ 0)
      ∗ ((lan fun d t => slotAny (F := F) c d 0 t) ∗ (lan fun d t => slotAny c d 1 t) ∗ (lan fun d t => slotAny c d 2 t) ∗ lan fun d t => blkAny aM c d (ups d c 0) t)
      ∗ ∃ W, owes (c : Thread nD τ) (O₀ c) W)
    (gBarrier c)
    iprop(semVal (cell c none) 0 ∗ ((lan fun d t => slotAny (out d c) d 0 t) ∗ (lan fun d t => slotAny (out d c) d 1 t)
      ∗ (lan fun d t => slotAny (out d c) d 2 t) ∗ lan fun d t => blkAny aM (out d c) d (ups d c 3) t) ∗ owing c (hopsFrom 0)) := by
  have h := barrier_tr m K c
  unfold lanePay at h
  simp only [lan_sep, ups_ups, Fin.reduceAdd] at h
  refine Tr.pre ?_ h
  iintro ⟨⟨H1, H2, H3, H4⟩, HL, HO⟩
  isplitl [H1]; · iexact H1
  isplitl [H2]; · iexact H2
  isplitl [H3]; · iexact H3
  isplitl [H4]; · iexact H4
  isplitl [HL]; · iexact HL
  iexact HO

/-! ## The ends of the arrays -/

theorem stored_parts (k : Fin 4) : (lan fun d t => storePay m c d t k)
    ⊢ iprop((lan fun d t => blkAt oM c d (ups d c k) t fullShare (full m d (ups d c k) t))
      ∗ lan fun d t => blkAt aM c d (ups d c k) t (stShare k) (full m d (ups d c k) t)) := by
  unfold storePay
  rw [lan_sep]

theorem sent_parts (h : Fin 6) : sent m c h ⊢ iprop((lan fun d t => spent c (chSend h d t)) ∗ lan fun d t => sendPay m c d t h) := by
  unfold sent
  rw [lan_sep]

theorem out_end : iprop((lan fun d t => blkAt oM c d (ups d c 0) t fullShare (full m d (ups d c 0) t))
      ∗ (lan fun d t => blkAt oM c d (ups d c 1) t fullShare (full m d (ups d c 1) t))
      ∗ (lan fun d t => blkAt oM c d (ups d c 2) t fullShare (full m d (ups d c 2) t))
      ∗ lan fun d t => blkAt oM c d (ups d c 3) t fullShare (full m d (ups d c 3) t))
    ⊢ iprop(∃ X, ⌜∀ d q t, (fun j => X ((rect512 (bo d q t) (bo_in d q t)).emb j)) = full m d q t⌝ ∗ ownsTc c oM fullShare X) := by
  have h := whole_of oM c (full m)
  rw [four] at h
  exact h

/-- The accumulator comes back from its stores and its sends. -/
theorem acc_end : iprop(((lan fun d t => blkAt aM c d (ups d c 0) t fullShare.left (full m d (ups d c 0) t))
        ∗ lan fun d t => blkAt aM c d (ups d c 0) t fullShare.right (full m d (ups d c 0) t))
      ∗ ((lan fun d t => blkAt aM c d (ups d c 1) t fullShare.left (full m d (ups d c 1) t))
        ∗ lan fun d t => blkAt aM c d (ups d c 1) t fullShare.right (full m d (ups d c 1) t))
      ∗ (lan fun d t => blkAt aM c d (ups d c 2) t fullShare (full m d (ups d c 2) t))
      ∗ ((lan fun d t => blkAt aM c d (ups d c 3) t fullShare.left (full m d (ups d c 3) t))
        ∗ lan fun d t => blkAt aM c d (ups d c 3) t fullShare.right (full m d (ups d c 3) t)))
    ⊢ (iprop(∃ Y : S8192x1024.Idx → Elt F .f32, ownsTc c aM fullShare Y) : sProp 𝕄) := by
  have h := whole_any (F := F) aM c
  rw [four] at h
  refine BIBase.Entails.trans ?_ h
  iintro ⟨H0, H1, H2, H3⟩
  isplitl [H0]; · iapply (any_join c aM 0 fun d t => full m d (ups d c 0) t); iexact H0
  isplitl [H1]; · iapply (any_join c aM 1 fun d t => full m d (ups d c 1) t); iexact H1
  isplitl [H2]; · iapply (any_of c aM 2 fun d t => full m d (ups d c 2) t); iexact H2
  iapply (any_join c aM 3 fun d t => full m d (ups d c 3) t); iexact H3

theorem slots_end : iprop((lan fun d t => slotAny (F := F) c d 0 t) ∗ (lan fun d t => slotAny c d 1 t) ∗ lan fun d t => slotAny c d 2 t)
    ⊢ (iprop(∃ X : S2x3x2x512x1024.Idx → Elt F .f32, ownsTc c sM fullShare X) : sProp 𝕄) := by
  have h := of_slots (F := F) c
  rw [three] at h
  exact h

theorem slots_start : (iprop(∃ X : S2x3x2x512x1024.Idx → Elt F .f32, ownsTc c sM fullShare X) : sProp 𝕄)
    ⊢ iprop((lan fun d t => slotAny (F := F) c d 0 t) ∗ (lan fun d t => slotAny c d 1 t) ∗ lan fun d t => slotAny c d 2 t) := by
  iintro ⟨%X, H⟩
  iapply (Entails.of_eq (three fun h => lan fun d t => slotAny (F := F) c d h t))
  iapply (slots_of c X); iexact H

theorem out_start : (iprop(∃ X : S8192x1024.Idx → Elt F .f32, ownsTc c oM fullShare X) : sProp 𝕄)
    ⊢ iprop((lan fun d t => blkAny (F := F) oM c d (ups d c 0) t) ∗ (lan fun d t => blkAny oM c d (ups d c 1) t)
      ∗ (lan fun d t => blkAny oM c d (ups d c 2) t) ∗ lan fun d t => blkAny oM c d (ups d c 3) t) := by
  iintro ⟨%X, H⟩
  iapply (Entails.of_eq (four fun k => lan fun d t => blkAny (F := F) oM c d (ups d c k) t))
  iapply (blocks_any oM c X); iexact H

theorem idle_loads : iprop(records m K ∗ both fun d => ready c (chLoad 0 d)) ⊢ |={Set.univ}=> both fun d => spent c (chLoad 0 d) := by
  rw [both_eq, both_eq]
  iintro ⟨#HR, H0, H1⟩
  imod (idle_load m K c 0) $$ [H0] with H0
  · isplitr; · iexact HR
    iexact H0
  imod (idle_load m K c 1) $$ [H1] with H1
  · isplitr; · iexact HR
    iexact H1
  imodintro
  isplitl [H0]; · iexact H0
  iexact H1

theorem cells_end : iprop(((lan fun d t => spent (F := F) c (chSend 0 d t)) ∗ (lan fun d t => spent c (chSend 1 d t)) ∗ (lan fun d t => spent c (chSend 2 d t))
        ∗ (lan fun d t => spent c (chSend 3 d t)) ∗ (lan fun d t => spent c (chSend 4 d t)) ∗ lan fun d t => spent c (chSend 5 d t))
      ∗ ((lan fun d t => spent c (chRecv 0 d t)) ∗ (lan fun d t => spent c (chRecv 1 d t)) ∗ (lan fun d t => spent c (chRecv 2 d t))
        ∗ (lan fun d t => spent c (chRecv 3 d t)) ∗ (lan fun d t => spent c (chRecv 4 d t)) ∗ lan fun d t => spent c (chRecv 5 d t))
      ∗ ((both fun d => spent c (chLoad 0 d)) ∗ (both fun d => spent c (chLoad 1 d)) ∗ (both fun d => spent c (chLoad 2 d)) ∗ both fun d => spent c (chLoad 3 d))
      ∗ ((lan fun d t => spent c (chStore 0 d t)) ∗ (lan fun d t => spent c (chStore 1 d t)) ∗ (lan fun d t => spent c (chStore 2 d t))
        ∗ lan fun d t => spent c (chStore 3 d t)))
    ⊢ (bigSep Finset.univ fun i : Ch => spent c i : sProp 𝕄) := by
  rw [over_cells, six, six, four, four]

/-! ## The kernel -/

/-- The kernel on a device. -/
theorem kern_tr : Tr m K c
    iprop(cells (F := F) c ∗ (∃ W, owes (c : Thread nD τ) (O₀ c) W) ∗ ownsTc c xM fullShare (xAt m c)
      ∗ (∃ X : S8192x1024.Idx → Elt F .f32, ownsTc c oM fullShare X) ∗ (∃ Y : S8192x1024.Idx → Elt F .f32, ownsTc c aM fullShare Y)
      ∗ ∃ Z : S2x3x2x512x1024.Idx → Elt F .f32, ownsTc c sM fullShare Z)
    (kern c) iprop(ended m c ∗ owing c []) := by
  unfold Tr kern cells
  iintro ⟨#HR, ⟨Hbar, HS, HT, HV, HL, HW⟩, HO, Hx, Ho, Ha, Hs⟩
  ihave HS := (Entails.of_eq (six _)) $$ HS
  icases HS with ⟨S0, S1, S2, S3, S4, S5⟩
  ihave HT := (Entails.of_eq (six _)) $$ HT
  icases HT with ⟨T0, T1, T2, T3, T4, T5⟩
  ihave HV := (Entails.of_eq (six _)) $$ HV
  icases HV with ⟨V0, V1, V2, V3, V4, V5⟩
  ihave HL := (Entails.of_eq (four _)) $$ HL
  icases HL with ⟨L0, L1, L2, L3⟩
  ihave HW := (Entails.of_eq (four _)) $$ HW
  icases HW with ⟨W0, W1, W2, W3⟩
  ihave Hx := (x_split m c) $$ Hx
  icases Hx with ⟨X0, X1, X2, X3⟩
  ihave Ho := (out_start c) $$ Ho
  icases Ho with ⟨O0, O1, O2, O3⟩
  ihave Ha := (a_split c) $$ Ha
  icases Ha with ⟨A0, A1, A2, A3⟩
  ihave Hs := (slots_start c) $$ Hs
  icases Hs with ⟨Z0, Z1, Z2⟩
  iapply (fupd_wp frame (wpE (defs₀ (F := F)) 𝒱₀ (c : Thread nD τ) none) Set.univ _ _)
  imod (idle_loads m K c) $$ [L0] with L0
  · isplitr; · iexact HR
    iexact L0
  imodintro
  iapply (loads_all m K c).step $$ [L1 X1 A1 L2 X2 A2 L3 X3 A3]
  · isplitr; · iexact HR
    isplitl
    · isplitl [L1 X1 A1]
      · isplitl [L1]; · iexact L1
        isplitl [X1]; · iexact X1
        iexact A1
      isplitl [L2 X2 A2]
      · isplitl [L2]; · iexact L2
        isplitl [X2]; · iexact X2
        iexact A2
      · isplitl [L3]; · iexact L3
        isplitl [X3]; · iexact X3
        iexact A3
    · iempintro
  iintro ⟨⟨L1, L2, L3⟩, -⟩
  iapply (barrier_all m K c).step $$ [Hbar Z0 Z1 Z2 A0 HO]
  · isplitr; · iexact HR
    isplitl [Hbar]; · iexact Hbar
    isplitr [HO]
    · isplitl [Z0]; · iexact Z0
      isplitl [Z1]; · iexact Z1
      isplitl [Z2]; · iexact Z2
      iexact A0
    iexact HO
  iintro ⟨Hbar, ⟨Z0, Z1, Z2, A0⟩, HO⟩
  iapply (first_all m K c).step $$ [S0 T0 X0 Z0 HO]
  · isplitr; · iexact HR
    isplitr [HO]
    · isplitl [S0]; · iexact S0
      isplitl [T0]; · iexact T0
      isplitl [X0]; · iexact X0
      iexact Z0
    iexact HO
  iintro ⟨S0, HO⟩
  iapply (loaded_all m K c 0 (hopsFrom 1)).step $$ [L1 HO]
  · isplitr; · iexact HR
    isplitl [L1]; · iexact L1
    iexact HO
  iintro ⟨⟨L1, A1, X1⟩, HO⟩
  iapply (hop0_all m K c).step $$ [V0 A1 S1 T1 Z1 HO]
  · isplitr; · iexact HR
    isplitr [HO]
    · isplitl [V0]; · iexact V0
      isplitl [A1]; · iexact A1
      isplitl [S1]; · iexact S1
      isplitl [T1]; · iexact T1
      iexact Z1
    iexact HO
  iintro ⟨⟨V0, Z0, S1⟩, HO⟩
  iapply (loaded_all m K c 1 (hopsFrom 2)).step $$ [L2 HO]
  · isplitr; · iexact HR
    isplitl [L2]; · iexact L2
    iexact HO
  iintro ⟨⟨L2, A2, X2⟩, HO⟩
  iapply (hop1_all m K c).step $$ [V1 A2 S2 T2 Z2 HO]
  · isplitr; · iexact HR
    isplitr [HO]
    · isplitl [V1]; · iexact V1
      isplitl [A2]; · iexact A2
      isplitl [S2]; · iexact S2
      isplitl [T2]; · iexact T2
      iexact Z2
    iexact HO
  iintro ⟨⟨V1, Z1, S2⟩, HO⟩
  iapply (loaded_all m K c 2 (hopsFrom 3)).step $$ [L3 HO]
  · isplitr; · iexact HR
    isplitl [L3]; · iexact L3
    iexact HO
  iintro ⟨⟨L3, A3, X3⟩, HO⟩
  iapply (turn_all m K c).step $$ [V2 A3 W3 O3 S3 T3 A0 HO]
  · isplitr; · iexact HR
    isplitr [HO]
    · isplitl [V2]; · iexact V2
      isplitl [A3]; · iexact A3
      isplitl [W3]; · iexact W3
      isplitl [O3]; · iexact O3
      isplitl [S3]; · iexact S3
      isplitl [T3]; · iexact T3
      iexact A0
    iexact HO
  iintro ⟨⟨V2, Z2, W3, S3⟩, HO⟩
  iapply (pass0_all m K c).step $$ [V3 W0 O0 S4 T4 HO]
  · isplitr; · iexact HR
    isplitr [HO]
    · isplitl [V3]; · iexact V3
      isplitl [W0]; · iexact W0
      isplitl [O0]; · iexact O0
      isplitl [S4]; · iexact S4
      iexact T4
    iexact HO
  iintro ⟨⟨V3, W0, S4⟩, HO⟩
  iapply (pass1_all m K c).step $$ [V4 W1 O1 S5 T5 HO]
  · isplitr; · iexact HR
    isplitr [HO]
    · isplitl [V4]; · iexact V4
      isplitl [W1]; · iexact W1
      isplitl [O1]; · iexact O1
      isplitl [S5]; · iexact S5
      iexact T5
    iexact HO
  iintro ⟨⟨V4, W1, S5⟩, HO⟩
  iapply (last_all m K c).step $$ [V5 W2 O2 HO]
  · isplitr; · iexact HR
    isplitr [HO]
    · isplitl [V5]; · iexact V5
      isplitl [W2]; · iexact W2
      iexact O2
    iexact HO
  iintro ⟨⟨V5, W2⟩, HO⟩
  iapply (stored_lanes m K c).step $$ [W0 W1 W2 W3 HO]
  · isplitr; · iexact HR
    isplitr [HO]
    · isplitl [W0]; · iexact W0
      isplitl [W1]; · iexact W1
      isplitl [W2]; · iexact W2
      iexact W3
    iexact HO
  iintro ⟨⟨⟨W0, P0⟩, ⟨W1, P1⟩, ⟨W2, P2⟩, ⟨W3, P3⟩⟩, HO⟩
  iapply (sents_tr m K c).last $$ [S0 S1 S2 S3 S4 S5 HO]
  · isplitr; · iexact HR
    isplitr [HO]
    · isplitl [S0]; · iexact S0
      isplitl [S1]; · iexact S1
      isplitl [S2]; · iexact S2
      isplitl [S3]; · iexact S3
      isplitl [S4]; · iexact S4
      iexact S5
    iexact HO
  iintro ⟨⟨S0, S1, S2, S3, S4, S5⟩, HO⟩
  ihave S0 := (sent_parts m c 0) $$ S0
  ihave S1 := (sent_parts m c 1) $$ S1
  ihave S2 := (sent_parts m c 2) $$ S2
  ihave S3 := (sent_parts m c 3) $$ S3
  ihave S4 := (sent_parts m c 4) $$ S4
  ihave S5 := (sent_parts m c 5) $$ S5
  icases S0 with ⟨S0, X0⟩
  icases S1 with ⟨S1, -⟩
  icases S2 with ⟨S2, -⟩
  icases S3 with ⟨S3, Q3⟩
  icases S4 with ⟨S4, Q0⟩
  icases S5 with ⟨S5, Q1⟩
  ihave P0 := (stored_parts m c 0) $$ P0
  ihave P1 := (stored_parts m c 1) $$ P1
  ihave P2 := (stored_parts m c 2) $$ P2
  ihave P3 := (stored_parts m c 3) $$ P3
  icases P0 with ⟨O0, P0⟩
  icases P1 with ⟨O1, P1⟩
  icases P2 with ⟨O2, P2⟩
  icases P3 with ⟨O3, P3⟩
  isplitr [HO]
  · unfold ended
    isplitl [Hbar]; · iexact Hbar
    isplitl [S0 S1 S2 S3 S4 S5 V0 V1 V2 V3 V4 V5 L0 L1 L2 L3 W0 W1 W2 W3]
    · iapply (cells_end c)
      isplitl [S0 S1 S2 S3 S4 S5]
      · isplitl [S0]; · iexact S0
        isplitl [S1]; · iexact S1
        isplitl [S2]; · iexact S2
        isplitl [S3]; · iexact S3
        isplitl [S4]; · iexact S4
        iexact S5
      isplitl [V0 V1 V2 V3 V4 V5]
      · isplitl [V0]; · iexact V0
        isplitl [V1]; · iexact V1
        isplitl [V2]; · iexact V2
        isplitl [V3]; · iexact V3
        isplitl [V4]; · iexact V4
        iexact V5
      isplitl [L0 L1 L2 L3]
      · isplitl [L0]; · iexact L0
        isplitl [L1]; · iexact L1
        isplitl [L2]; · iexact L2
        iexact L3
      isplitl [W0]; · iexact W0
      isplitl [W1]; · iexact W1
      isplitl [W2]; · iexact W2
      iexact W3
    isplitl [X0 X1 X2 X3]
    · iapply (x_join m c)
      isplitl [X0]; · iexact X0
      isplitl [X1]; · iexact X1
      isplitl [X2]; · iexact X2
      iexact X3
    isplitl [O0 O1 O2 O3]
    · iapply (out_end m c)
      isplitl [O0]; · iexact O0
      isplitl [O1]; · iexact O1
      isplitl [O2]; · iexact O2
      iexact O3
    isplitl [P0 P1 P2 P3 Q0 Q1 Q3]
    · iapply (acc_end m c)
      isplitl [P0 Q0]
      · isplitl [P0]; · iexact P0
        iexact Q0
      isplitl [P1 Q1]
      · isplitl [P1]; · iexact P1
        iexact Q1
      isplitl [P2]; · iexact P2
      isplitl [P3]; · iexact P3
      iexact Q3
    iapply (slots_end c)
    isplitl [Z0]; · iexact Z0
    isplitl [Z1]; · iexact Z1
    iexact Z2
  · iexact HO

end

end Cert.AllReduce

end
-- ==== Proof.Deal.lean ====
/-
# Dealing the ghost state

At launch every device's cells are made, their invariants named, and the tokens dealt: a landing's token goes to the
device that sends there, a barrier's two tokens to the two neighbours that signal it. The launch credit gives each device
what is owed to its own cells.
-/
module

public import proofs.«01_k».proof.Proof.Body
public import proofs.«01_k».proof.Proof.Gen.KernelIdeal.Launch
public import Idealize.ShloMosaic.Lib.Pipeline.Launch

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

theorem over_option {I : Type} [Fintype I] (Φ : Option I → sProp 𝕄) : bigSep Finset.univ Φ = iprop(Φ none ∗ bigSep Finset.univ fun i => Φ (some i)) := by
  classical
  rw [bigSep_univ_at Φ none]
  have e : (Finset.univ : Finset (Option I)).erase none = Finset.univ.map Function.Embedding.some := by
    ext i
    cases i <;> simp
  rw [e, bigSep_map]
  rfl

theorem over_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1), bigSep_univ_equiv (Equiv.prodComm J I)]
  rfl

/-- What persists may be used at every member of a family. -/
theorem with_all {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ := by
  refine (sep_mono_left (BI.bigSep_of_persistent S R)).trans ?_
  rw [← bigSep_sep']
  exact bigSep_mono fun i _ => h i

/-! ## Cells and tokens -/

def allCells : Finset (GSem nD τ sig) := Finset.univ.map ⟨fun p : Dev nD × Option Ch => cell p.1 p.2, fun p q h => Prod.ext (cell_inj h).1 (cell_inj h).2⟩

/-- A token per cell, and the barrier's second. -/
def tokAt (p : Dev nD × Option (Option Ch)) : GSem nD τ sig × ℕ × Fin 2 := (cell p.1 (p.2.getD none), 0, if p.2 = none then 1 else 0)

theorem tokAt_inj : Function.Injective tokAt := by
  rintro ⟨c, i⟩ ⟨c', i'⟩ h
  obtain ⟨rfl, h1⟩ := cell_inj (congrArg Prod.fst h)
  have h2 : (if i = none then (1 : Fin 2) else 0) = if i' = none then 1 else 0 := congrArg (fun x : GSem nD τ sig × ℕ × Fin 2 => x.2.2) h
  cases i <;> cases i'
  · rfl
  · simp at h2
  · simp at h2
  · exact Prod.ext rfl (congrArg some h1)

def allToks : Finset (GSem nD τ sig × ℕ × Fin 2) := Finset.univ.map ⟨tokAt, tokAt_inj⟩

section

variable (m : (ℓ : Loc nD τ sig) → Buf (Elt F) ℓ) (c : Dev nD)

/-- The tokens of `c`'s own cells. -/
def toks (c : Dev nD) : sProp 𝕄 :=
  iprop(dutyTok ER (cell c none) 0 1 ∗ dutyTok ER (cell c none) 0 0 ∗ bigSep Finset.univ fun i : Ch => dutyTok ER (ocell c i) 0 0)

/-- What a device is dealt. -/
def dealt (c : Dev nD) : sProp 𝕄 :=
  iprop((bigSep Finset.univ fun i : Option Ch => roundState ER (rd m) (cell c i) 0)
    ∗ (bigSep Finset.univ fun i : Option Ch => iprop(atPos ER (cell c i) 0 ∅ 0 ∗ reached ER (cell c i) 0)) ∗ toks c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun i : Option Ch => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [over_option, over_option]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat]; · iexact Hat
    iexact Hr
  iexact Htok

/-- The counters a device starts with are its cells'. -/
theorem sems_all : iprop(Pipeline.ownSems0 (Ix := Unit) (Name := ℕ) (U := UU) (Lvl := ℕ) (Val := Elt F) (τ := τ) osem c ∗ unscopedSems0 c)
    ⊢ (bigSep Finset.univ fun i : Option Ch => semVal (cell c i) 0 : sProp 𝕄) := by
  have h : (unscopedSems0 c : sProp 𝕄) = semVal (cell c none) 0 := by
    unfold unscopedSems0; rw [bigSep_eq_bigSepL_of_eq [SemLoc.reg barS] (by decide) (by decide)]; rfl
  unfold Pipeline.ownSems0
  rw [over_option, h]
  iintro ⟨H1, H2⟩
  isplitl [H2]; · iexact H2
  iexact H1

/-- A device's invariants. -/
theorem alloc_one :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : Option Ch => iprop(∃ κ : ℕ, cellInv ER (rd m) κ (cell c i)))
          ∗ (bigSep Finset.univ fun i : Option Ch => iprop(atPos ER (cell c i) 0 ∅ 0 ∗ reached ER (cell c i) 0)) ∗ toks c) := by
  have hI : iprop((bigSep Finset.univ fun i : Option Ch => semVal (cell c i) 0) ∗ bigSep Finset.univ fun i : Option Ch => roundState ER (rd m) (cell c i) 0)
      ⊢ (|={Set.univ}=> bigSep Finset.univ fun i : Option Ch => iprop(∃ κ : ℕ, cellInv ER (rd m) κ (cell c i)) : sProp 𝕄) := by
    rw [← bigSep_sep']
    exact (bigSep_mono fun i _ => (Rounds.body_intro ER (rd m) (cell c i)).trans inv_alloc).trans (bigSep_fupd _ _)
  unfold dealt
  iintro ⟨Ho, Hu, Hst, Hat, Htok⟩
  ihave Hv := (sems_all (F := F) c) $$ [Ho Hu]
  · isplitl [Ho]; · iexact Ho
    iexact Hu
  imod hI $$ [Hv Hst] with Hinv
  · isplitl [Hv]; · iexact Hv
    iexact Hst
  imodintro
  isplitl [Hinv]; · iexact Hinv
  isplitl [Hat]; · iexact Hat
  iexact Htok

/-! ## The tokens go to who pays -/

theorem inn_out (d : Fin 2) (c : Dev nD) : inn d (out d c) = c := (ups_ups d c 3 1).trans (ups_zero d c)
theorem out_inn (d : Fin 2) (c : Dev nD) : out d (inn d c) = c := (ups_ups d c 1 3).trans (ups_zero d c)
/-- One hop, as a permutation of the devices. -/
def hop (d : Fin 2) : Dev nD ≃ Dev nD := ⟨out d, inn d, inn_out d, out_inn d⟩

def paid (c : Dev nD) : sProp 𝕄 :=
  iprop(dutyTok ER (cell (inn 0 c) none) 0 0 ∗ dutyTok ER (cell (inn 1 c) none) 0 1
    ∗ (bigSep Finset.univ fun h : Fin 6 => lan fun d t => dutyTok ER (ocell c (chSend h d t)) 0 0)
    ∗ (bigSep Finset.univ fun h : Fin 6 => lan fun d t => token c h d t)
    ∗ (bigSep Finset.univ fun k : Fin 4 => both fun d => dutyTok ER (ocell c (chLoad k d)) 0 0)
    ∗ (bigSep Finset.univ fun k : Fin 4 => lan fun d t => dutyTok ER (ocell c (chStore k d t)) 0 0))

theorem landings_around :
    (bigSep Finset.univ fun c : Dev nD => bigSep Finset.univ fun h : Fin 6 => lan fun d t => (dutyTok ER (ocell c (chRecv h d t)) 0 0 : sProp 𝕄))
      = bigSep Finset.univ fun c : Dev nD => bigSep Finset.univ fun h : Fin 6 => lan fun d t => token c h d t := by
  unfold lan token
  rw [over_swap, over_swap fun (c : Dev nD) (h : Fin 6) => bigSep Finset.univ fun l : Lane => (dutyTok ER (ocell (out l.1 c) (chRecv h l.1 l.2)) 0 0 : sProp 𝕄)]
  refine bigSep_congr fun h _ => ?_
  rw [over_swap, over_swap fun (c : Dev nD) (l : Lane) => (dutyTok ER (ocell (out l.1 c) (chRecv h l.1 l.2)) 0 0 : sProp 𝕄)]
  exact bigSep_congr fun l _ => bigSep_univ_equiv (hop l.1) _

theorem toks_around : (bigSep Finset.univ fun c : Dev nD => (toks c : sProp 𝕄)) ⊢ bigSep Finset.univ fun c : Dev nD => paid c := by
  unfold toks paid
  simp only [over_cells, bigSep_sep']
  rw [landings_around, bigSep_univ_equiv (hop 0).symm (fun c : Dev nD => (dutyTok ER (cell c none) 0 0 : sProp 𝕄)),
    bigSep_univ_equiv (hop 1).symm (fun c : Dev nD => (dutyTok ER (cell c none) 0 1 : sProp 𝕄))]
  iintro ⟨H1, H0, HS, HV, HL, HW⟩
  isplitl [H0]; · iexact H0
  isplitl [H1]; · iexact H1
  isplitl [HS]; · iexact HS
  isplitl [HV]; · iexact HV
  isplitl [HL]; · iexact HL
  iexact HW

/-- What a device holds of the ghost state, the levels and the credit apart. -/
def held (c : Dev nD) : sProp 𝕄 :=
  iprop((∃ K : Dev nD × Option Ch → ℕ, (bigSep Finset.univ fun p : Dev nD × Option Ch => cellInv ER (rd m) (K p) (cell p.1 p.2))
      ∗ (bigSep Finset.univ fun p : Dev nD × Option Ch => reached ER (cell p.1 p.2) 0))
    ∗ (bigSep Finset.univ fun i : Option Ch => atPos ER (cell c i) 0 ∅ 0) ∗ paid c)

theorem regroup :
    (bigSep Finset.univ fun c : Dev nD => iprop((bigSep Finset.univ fun i : Option Ch => iprop(∃ κ : ℕ, cellInv ER (rd m) κ (cell c i)))
          ∗ (bigSep Finset.univ fun i : Option Ch => iprop(atPos ER (cell c i) 0 ∅ 0 ∗ reached ER (cell c i) 0)) ∗ toks c) : sProp 𝕄)
      ⊢ bigSep Finset.univ (held m) := by
  simp only [bigSep_sep']
  rw [← bigSep_univ_prod (fun p : Dev nD × Option Ch => iprop(∃ κ : ℕ, cellInv ER (rd m) κ (cell p.1 p.2))),
    ← bigSep_univ_prod (fun p : Dev nD × Option Ch => (reached ER (cell p.1 p.2) 0 : sProp 𝕄))]
  iintro ⟨HI, ⟨Hat, #HR⟩, Htok⟩
  ihave HK := (BI.bigSep_exists_pi Finset.univ (fun (p : Dev nD × Option Ch) (κ : ℕ) => (cellInv ER (rd m) κ (cell p.1 p.2) : sProp 𝕄))) $$ HI
  icases HK with ⟨%K, #HI⟩
  ihave Htk := (toks_around (F := F)) $$ Htok
  iapply (with_all (R := iprop((bigSep Finset.univ fun p : Dev nD × Option Ch => cellInv ER (rd m) (K p) (cell p.1 p.2))
      ∗ (bigSep Finset.univ fun p : Dev nD × Option Ch => reached ER (cell p.1 p.2) 0)))
    (Φ := fun c => iprop((bigSep Finset.univ fun i : Option Ch => atPos ER (cell c i) 0 ∅ 0) ∗ paid c)) fun c => by
      unfold held
      iintro ⟨#H, H'⟩
      isplitr
      · iexists K; iexact H
      iexact H')
  isplitr
  · isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄) ⊢ |={Set.univ}=> bigSep Finset.univ (held m) :=
  ((bigSep_mono fun c _ => alloc_one m c).trans (bigSep_fupd _ _)).trans (BI.fupd_mono (regroup m))

/-! ## The launch credit -/

theorem owed_at (e : Dev nD) (h : Fin 6) (d t : Fin 2) : {l : List Hop} → l.Nodup →
    owed e l (ocell c (chRecv h d t)) () = if (h, d, t) ∈ l ∧ e = inn d c then NB else 0
  | [], _ => by rw [if_neg (fun hh => nomatch hh.1)]; rfl
  | a :: l, hn => by
    obtain ⟨hal, hl⟩ := List.nodup_cons.mp hn
    unfold owed
    rw [Pi.add_apply, Finsupp.add_apply, owed_at e h d t hl, tallyAt_apply]
    by_cases ha : (h, d, t) = a
    · subst ha
      rw [if_neg (fun hh => hal hh.1), Nat.zero_add]
      refine if_congr ⟨fun hh => ⟨List.mem_cons_self, ?_⟩, fun hh => ⟨?_, rfl⟩⟩ rfl rfl
      · rw [(cell_inj hh.1).1]; exact (inn_out d e).symm
      · show ocell c (chRecv h d t) = ocell (out d e) (chRecv h d t)
        rw [hh.2, out_inn]
    · have hc : ¬ (ocell c (chRecv h d t) = ocell (out a.2.1 e) (chRecv a.1 a.2.1 a.2.2) ∧ () = ()) :=
        fun hh => ha (Sum.inl.inj (Sum.inr.inj (Option.some.inj (cell_inj hh.1).2)))
      rw [if_neg hc, Nat.add_zero]
      exact if_congr ⟨fun hh => ⟨List.mem_cons_of_mem _ hh.1, hh.2⟩, fun hh => ⟨(List.mem_cons.mp hh.1).resolve_left ha, hh.2⟩⟩ rfl rfl

theorem all_hops : ∀ h : Fin 6, ∀ d t : Fin 2, (h, d, t) ∈ hopsFrom 0 := by decide

theorem owed_recv (e : Dev nD) (h : Fin 6) (d t : Fin 2) : O₀ e (ocell c (chRecv h d t)) () = if e = inn d c then NB else 0 := by
  have hn : ∀ i : Dev nD, ocell c (chRecv h d t) ≠ cell i none := fun i hh => nomatch (cell_inj hh).2
  unfold O₀ O₁
  rw [Pi.add_apply, Finsupp.add_apply, Pi.add_apply, Finsupp.add_apply, tallyAt_ne_cell (hn _), tallyAt_ne_cell (hn _), Finsupp.zero_apply,
    Nat.add_zero, Nat.add_zero, owed_at c e h d t (by decide)]
  exact if_congr ⟨fun hh => hh.2, fun hh => ⟨all_hops h d t, hh⟩⟩ rfl rfl

theorem owed_bar (e : Dev nD) : O₀ e (cell c none) () = (if e = out 1 c then 1 else 0) + if e = out 0 c then 1 else 0 := by
  have h0 : owed e (hopsFrom 0) (cell c none) () = 0 := by
    by_contra hh
    obtain ⟨a, -, ha⟩ := owed_pos (Nat.pos_of_ne_zero hh)
    exact nomatch (cell_inj ha).2
  have hk (d : Fin 2) : cell c none = cell (inn d e) none ∧ () = () ↔ e = out d c :=
    ⟨fun hh => by rw [(cell_inj hh.1).1]; exact (out_inn d e).symm, fun hh => ⟨by rw [hh, inn_out], rfl⟩⟩
  unfold O₀ O₁
  rw [Pi.add_apply, Finsupp.add_apply, Pi.add_apply, Finsupp.add_apply, tallyAt_apply, tallyAt_apply, h0, Nat.zero_add]
  exact congrArg₂ (· + ·) (if_congr (hk 1) rfl rfl) (if_congr (hk 0) rfl rfl)

theorem launch_bar : tallyOn (cell c none) (launchCredit (Pipeline.owing O₀) 0 (cell c none)) = (tallyAt (cell c none) () 2 : CellTallies nD τ sig Unit) := by
  unfold tallyAt; refine congrArg _ (Finsupp.ext fun u => ?_); cases u
  rw [Pipeline.launchCredit_owing, Finsupp.single_eq_same, Finset.sum_congr rfl fun e _ => owed_bar c e, Finset.sum_add_distrib,
    Finset.sum_ite_eq' Finset.univ (out 1 c) fun _ => 1, Finset.sum_ite_eq' Finset.univ (out 0 c) fun _ => 1, if_pos (Finset.mem_univ _), if_pos (Finset.mem_univ _)]

theorem launch_recv (h : Fin 6) (d t : Fin 2) : tallyOn (ocell c (chRecv h d t)) (launchCredit (Pipeline.owing O₀) 0 (ocell c (chRecv h d t)))
    = (tallyAt (ocell c (chRecv h d t)) () (amt (some (chRecv h d t))) : CellTallies nD τ sig Unit) := by
  unfold tallyAt; refine congrArg _ (Finsupp.ext fun u => ?_); cases u
  rw [Pipeline.launchCredit_owing, Finsupp.single_eq_same, Finset.sum_congr rfl fun e _ => owed_recv c e h d t,
    Finset.sum_ite_eq' Finset.univ (inn d c) fun _ => NB, if_pos (Finset.mem_univ _)]
  rfl

/-- The cells others owe. -/
def owedCell : Option (Fin 6 × Lane) ↪ SemLoc sig := ⟨fun x => csem (x.map fun a => chRecv a.1 a.2.1 a.2.2), fun x y hh => by
  have := csem_inj hh
  cases x <;> cases y
  · rfl
  · exact nomatch this
  · exact nomatch this
  · exact congrArg some (Sum.inl.inj (Sum.inr.inj (Option.some.inj this)))⟩

theorem creds : (Pipeline.launchCred O₀ c : sProp 𝕄) ⊢ iprop(cred (tallyAt (cell c none) () 2)
    ∗ bigSep Finset.univ fun h : Fin 6 => lan fun d t => cred (tallyAt (ocell c (chRecv h d t)) () (amt (some (chRecv h d t))))) := by
  unfold Pipeline.launchCred
  refine (bigSep_subset (Finset.subset_univ (Finset.univ.map owedCell))).trans ?_
  rw [bigSep_map, over_option, bigSep_univ_prod]
  refine BI.sep_mono (Entails.of_eq (congrArg cred (launch_bar c))) (BI.bigSep_mono fun h _ => BI.bigSep_mono fun l _ => ?_)
  exact Entails.of_eq (congrArg cred (launch_recv c h l.1 l.2))

end

end Cert.AllReduce

end
-- ==== Proof.Run.lean ====
/-
# The run

The launch of the four kernels: from any memory with every counter zero, over any float values, each device ends with its
operand as it was, its result complete in every block, and every counter zero.
-/
module

public import proofs.«01_k».proof.Proof.Deal
public import Idealize.ShloMosaic.Lib.Pipeline.CollectiveSegs

@[expose] public section

set_option backward.proofsInPublic true

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

section

variable (m : (ℓ : Loc nD τ sig) → Buf (Elt F) ℓ) (ρ : Dev nD → PrngReg) (c : Dev nD)

/-! ## What the kernel starts from and ends with -/

/-- The ghost state and the two arrays. -/
def start (c : Dev nD) : sProp 𝕄 :=
  iprop((∃ K, records m K) ∗ cells c ∗ ownsTc c xM fullShare (xAt m c) ∗ ∃ X : S8192x1024.Idx → Elt F .f32, ownsTc c oM fullShare X)

def before (c : Dev nD) : sProp 𝕄 :=
  iprop(start m c ∗ (∃ Y : S8192x1024.Idx → Elt F .f32, ownsTc c aM fullShare Y) ∗ ∃ Z : S2x3x2x512x1024.Idx → Elt F .f32, ownsTc c sM fullShare Z)

/-- The one region's data: no windows. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => ended m c
  q w := w.elim0
  owed t := match t with
    | ⟨0, _⟩ => O₀ c
    | ⟨_ + 1, _⟩ => 0

theorem text_eq (t : Fin cfg0.N) : defs₀ (F := F) .tc cfg0.body (cfg0.bodyArgs t (cfg0.slots t)) = (Prog.lift .deviceId >>= kern : PG F PUnit) :=
  Eq.trans rfl (body_eq t)

theorem body_run : iprop(before m c ∗ ∃ W, owes (c : Thread nD τ) (O₀ c) W)
    ⊢ wp frame (wpE (defs₀ (F := F)) 𝒱₀ (c : Thread nD τ) none) Set.univ (Prog.lift .deviceId >>= kern : PG F PUnit)
        fun _ => iprop(ended m c ∗ ∃ W, owes (c : Thread nD τ) 0 W) := by
  simp only [Prog.lift, Prog.bind_op, Prog.bind_ret, wp_deviceId]
  unfold before start
  iintro ⟨⟨⟨⟨%K, #HR⟩, Hc, Hx, Ho⟩, Ha, Hs⟩, HO⟩
  iapply (kern_tr m K c).last $$ [Hc HO Hx Ho Ha Hs]
  · isplitr; · iexact HR
    isplitl [Hc]; · iexact Hc
    isplitl [HO]; · iexact HO
    isplitl [Hx]; · iexact Hx
    isplitl [Ho]; · iexact Ho
    isplitl [Ha]; · iexact Ha
    iexact Hs
  iintro H
  iexact H

theorem body_ok : BodyObligation (dats (F := F) m 0 c) (defs₀ (F := F)) 𝒱₀ () Set.univ := fun t => by
  have e : (Finset.univ : Finset (Fin cfg0.W)) = ∅ := rfl
  rw [text_eq, fin_N0 t, e, bigSep_empty, bigSep_empty]
  have h0 : (dats m 0 c).Φ t0_0.castSucc = before m c := rfl
  have h1 : (dats m 0 c).Φ t0_0.succ = ended m c := rfl
  have o0 : (dats m 0 c).owed t0_0.castSucc = O₀ c := rfl
  have o1 : (dats m 0 c).owed t0_0.succ = 0 := rfl
  have hr := body_run m c
  unfold Dat.owesAt Pipeline.owesWithin
  rw [h0, h1, o0, o1]
  iintro ⟨H, ⟨%W, -, HO⟩, -⟩
  iapply (wp_wand _ _ _ (p := (Prog.lift .deviceId >>= kern : PG F PUnit))) $$ [H HO]
  · iapply hr
    isplitl [H]; · iexact H
    iexists W; iexact HO
  iintro %a ⟨H, %W', HO⟩
  isplitl [H]; · iexact H
  isplitl [HO]
  · iexists W'
    isplitr; · ipureintro; exact fun _ _ => Or.inl trivial
    iexact HO
  iempintro

/-! ## The launch's steps -/

/-- What was dealt, with the launch credit, is what the kernel's cells start with. -/
theorem cells_intro : iprop((bigSep Finset.univ fun i : Option Ch => (atPos ER (cell c i) 0 ∅ 0 : sProp 𝕄)) ∗ paid c ∗ Pipeline.launchCred O₀ c) ⊢ cells (F := F) c := by
  unfold paid cells ready flying
  simp only [over_option, over_cells, lan_sep, both_sep, bigSep_sep']
  iintro ⟨⟨HB, PS, PV, PL, PW⟩, ⟨T0, T1, TS, TV, TL, TW⟩, HC⟩
  ihave HC := (creds (F := F) c) $$ HC
  icases HC with ⟨C, CV⟩
  isplitl [T0 T1 C HB]
  · isplitl [T0]; · iexact T0
    isplitl [T1]; · iexact T1
    isplitl [C]; · iexact C
    iexact HB
  isplitl [TS PS]
  · isplitl [TS]; · iexact TS
    iexact PS
  isplitl [TV]; · iexact TV
  isplitl [CV PV]
  · isplitl [CV]; · iexact CV
    iexact PV
  isplitl [TL PL]
  · isplitl [TL]; · iexact TL
    iexact PL
  isplitl [TW]; · iexact TW
  iexact PW

theorem start_intro :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(start m c ∗ emp) := by
  rw [Pipeline.unscopedRestP_none, unscopedRest0_eq]
  unfold held start ownsTc
  iintro ⟨⟨Hx, Ho⟩, #Hlev, Hcr, -, ⟨%K, #HI, #HR⟩, Hat, Hp⟩
  imodintro
  isplitl
  · isplitr
    · iexists K
      unfold records
      isplitr; · iexact HI
      isplitr; · iexact HR
      iexact Hlev
    isplitl [Hcr Hat Hp]
    · iapply (cells_intro (F := F) c)
      isplitl [Hat]; · iexact Hat
      isplitl [Hp]; · iexact Hp
      iexact Hcr
    isplitl [Hx]
    · iapply (Entails.of_eq (owns_whole (c : Thread nD τ) main_arg0 fullShare (xAt m c)).symm); iexact Hx
    · iexists (m ((c : Thread nD τ).loc main_v1))
      iapply (Entails.of_eq (owns_whole (c : Thread nD τ) main_v1 fullShare (m ((c : Thread nD τ).loc main_v1))).symm); iexact Ho
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before ownsTc
  iintro ⟨Hs, -, ⟨%f, Ha⟩, %g, Hb⟩
  isplitl [Hs]; · iexact Hs
  isplitl [Ha]
  · iexists f; iapply (Entails.of_eq (owns_whole (c : Thread nD τ) cc0_scratch0 fullShare f).symm); iexact Ha
  · iexists g; iapply (Entails.of_eq (owns_whole (c : Thread nD τ) cc0_scratch1 fullShare g).symm); iexact Hb

/-- What is read off at the end. -/
def result (c : Dev nD) : sProp 𝕄 :=
  iprop(unscopedSems0 c ∗ (((c : Thread nD τ).loc main_arg0) ↦{fullShare} m ((c : Thread nD τ).loc main_arg0))
    ∗ ∃ X : S8192x1024.Idx → Elt F .f32, ⌜∀ d q t, (fun j => X ((rect512 (bo d q t) (bo_in d q t)).emb j)) = full m d q t⌝
      ∗ (((c : Thread nD τ).loc main_v1) ↦{fullShare} X))

theorem leave : (dats m 0 c).Φ (Fin.last cfg0.N) ⊢ iprop(result m c ∗ Pipeline.ownSems0 osem c ∗ Pipeline.scopedRest cfg0.spec c) := by
  have h : (unscopedSems0 c : sProp 𝕄) = semVal (cell c none) 0 := by
    unfold unscopedSems0; rw [bigSep_eq_bigSepL_of_eq [SemLoc.reg barS] (by decide) (by decide)]; rfl
  rw [show (dats m 0 c).Φ (Fin.last cfg0.N) = ended m c from rfl, scopedRest0_eq]
  unfold ended result Pipeline.ownSems0 ownsTc
  rw [h]
  iintro ⟨Hb, Hz, Hx, ⟨%X, %hX, Ho⟩, ⟨%Y, Ha⟩, %Z, Hs⟩
  isplitl [Hb Hx Ho]
  · isplitl [Hb]; · iexact Hb
    isplitl [Hx]
    · iapply (Entails.of_eq (owns_whole (c : Thread nD τ) main_arg0 fullShare (xAt m c))); iexact Hx
    iexists X
    isplitr; · ipureintro; exact hX
    iapply (Entails.of_eq (owns_whole (c : Thread nD τ) main_v1 fullShare X)); iexact Ho
  isplitl [Hz]; · iexact Hz
  isplitl [Ha]
  · iexists Y; iapply (Entails.of_eq (owns_whole (c : Thread nD τ) cc0_scratch0 fullShare Y)); iexact Ha
  · iexists Z; iapply (Entails.of_eq (owns_whole (c : Thread nD τ) cc0_scratch1 fullShare Z)); iexact Hs

/-! ## The run -/

/-- A device's final state. -/
def Ends (c : Dev nD) (s : MemSt nD τ sig (Elt F)) : Prop :=
  s.mem ((c : Thread nD τ).loc main_arg0) = m ((c : Thread nD τ).loc main_arg0)
    ∧ ∀ d q t, (fun j => (s.mem ((c : Thread nD τ).loc main_v1) : S8192x1024.Idx → Elt F .f32) ((rect512 (bo d q t) (bo_in d q t)).emb j)) = full m d q t

theorem read_result (s' : Phys nD τ sig (Elt F)) : iprop(result m c ∗ emp ∗ SI s')
    ⊢ |={Set.univ}=> iprop(⌜(∀ sm : SemLoc sig, sm.isScoped .tc = false → s'.mem.sem ((c : Thread nD τ), sm) = 0) ∧ Ends m c s'.mem⌝ ∗ SI s') := by
  unfold result
  iintro ⟨⟨Hu, Hx, %X, %hX, Ho⟩, -, HSI⟩
  imod (Pipeline.unscopedSems0_read (X := unscopedSems0 c) (c := c) fupd_intro s') $$ [Hu HSI] with ⟨%hu, HSI⟩
  · isplitl [Hu]; · iexact Hu
    iexact HSI
  icombine HSI Hx gives %hx
  icombine HSI Ho gives %ho
  have hx := Buf.eq_of_forall_mem_univ hx
  have ho := Buf.eq_of_forall_mem_univ ho
  imodintro
  isplitr
  · ipureintro
    refine ⟨hu, hx, fun d q t => ?_⟩
    rw [ho]
    exact hX d q t
  iexact HSI

theorem ownSems_ok : Pipeline.OwnSemFacts cfg0.spec osem := ⟨by decide, osem_inj, fun _ w => w.elim0⟩

def u₀ : UU :=
  (initOf (Pipeline.cells cfgs cellOf_inj) (Pipeline.launchToks cfgs cellOf_inj), initOf allCells allToks)

set_option maxRecDepth 8000 in
/-- Every weakly fair execution of the four kernels ends; then each device's operand is unchanged, its result complete,
every counter zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSems_ok (Pipeline.PreFacts.none _) EP defs₀ 𝒱₀ m ρ main
    (hmain := fun _ => rfl)
    (hbody := fun c => (body_ok m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := dealt m) (G' := held m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ w => w.elim0) (hpf := fun _ k => k.elim0)
    (X := start m) (Y := result m) (Z := fun _ => iprop(emp))
    (hX := start_intro m ρ) (hin := enter m) (hout := leave m)
    (QY := fun c s => (∀ sm : SemLoc sig, sm.isScoped .tc = false → s.sem ((c : Thread nD τ), sm) = 0) ∧ Ends m c s)
    (hY := read_result m)
    (hQ := fun _ h hs => ⟨fun c => (h c).2.2.2, sem_eq_zero hs fun c => (h c).2.2.1⟩)

end

end Cert.AllReduce

end
-- ==== Proof.Value.lean ====
/-
# The value

Read with exact sums, the complete block of a chunk is the sum of the four devices' blocks, in whatever order the ring
adds them; and the reference's element is the sum of the same four elements.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.AllReduce

open Cert.KernelIdeal Cert.KernelIdeal.Gen
open Idealize.ShloMosaic Idealize.ShloMosaic.TcCoe
open Idealize.SL.Sem

/-! ## The kernel's side -/

/-- Going up the stream from a device meets every device once. -/
theorem ups_bij (d : Fin 2) (q : Dev nD) : Function.Bijective (ups d q) := by revert d q; decide

/-- Down the stream `k` times, then up as many: back. -/
theorem ups_around (d : Fin 2) (q : Dev nD) : ups d (inn d q) (Fin.ofNat 4 3) = q ∧ ups d (inn d (inn d q)) (Fin.ofNat 4 2) = q
    ∧ ups d (inn d (inn d (inn d q))) (Fin.ofNat 4 1) = q ∧ ups d (inn d (inn d (inn d (inn d q)))) (Fin.ofNat 4 0) = q := by
  revert d q; decide

section

variable (m : (ℓ : Loc nD τ sig) → Buf (Elt Ideal) ℓ)

/-- The sum of the devices' operands, an element at a time. -/
def total (i : S8192x1024.Idx) : EReal := ∑ c : Dev nD, (xAt (F := Ideal) m c i : EReal)

/-- A complete block is the sum's block. -/
theorem full_total (d : Fin 2) (q : Dev nD) (t : Fin 2) (j : (rect512 (bo d q t) (bo_in d q t)).shape.Idx) :
    full (F := Ideal) m d q t j = total m ((rect512 (bo d q t) (bo_in d q t)).emb j) := by
  have e : ∀ n c, ups d c (Fin.ofNat 4 n) = q → part (F := Ideal) m d t n c j
      = match n with
        | 0 => (xAt (F := Ideal) m c ((rect512 (bo d q t) (bo_in d q t)).emb j) : EReal)
        | n + 1 => (xAt (F := Ideal) m c ((rect512 (bo d q t) (bo_in d q t)).emb j) : EReal) + part (F := Ideal) m d t n (inn d c) j := by
    rintro (_ | n) c rfl <;> rfl
  obtain ⟨h1, h2, h3, h4⟩ := ups_around d q
  unfold full total
  rw [e 3 _ h1]; dsimp only
  rw [e 2 _ h2]; dsimp only
  rw [e 1 _ h3]; dsimp only
  rw [e 0 _ h4]; dsimp only
  rw [← (ups_bij d q).sum_comp fun c => (xAt (F := Ideal) m c ((rect512 (bo d q t) (bo_in d q t)).emb j) : EReal)]
  have g2 : inn d (inn d q) = ups d q 2 := ups_ups d q 1 1
  have g3 : inn d (ups d q 2) = ups d q 3 := ups_ups d q 2 1
  have g4 : inn d (ups d q 3) = ups d q 0 := ups_ups d q 3 1
  rw [g2, g3, g4]
  simp only [Fin.sum_univ_four]
  abel

/-- An array whose every block is complete is the sum. -/
theorem eq_total (X : S8192x1024.Idx → Elt Ideal .f32)
    (h : ∀ d q t, (fun j => X ((rect512 (bo d q t) (bo_in d q t)).emb j)) = full (F := Ideal) m d q t) : X = total m :=
  blocks_ext fun d q t => (h d q t).trans (funext fun j => full_total m d q t j)

end

/-! ## The reference's side -/

/-- The reference's element is the sum of the same element of the four blocks. -/
theorem ref_total (X : Cert.ReferenceIdeal.S32768x1024.Idx → Elt Ideal .f32) (i : S8192x1024.Idx) :
    Host.reduceAdd (F := Ideal) (shapeCast _ X Cert.ReferenceIdeal.Facts₀.shapeCasts_S32768x1024_S4x8192x1024)
        (constant Cert.ReferenceIdeal.S_ .f32 0x00000000#32) Cert.ReferenceIdeal.Facts₀.reducesTo_S4x8192x1024_S8192x1024_d0
        Cert.ReferenceIdeal.Facts₀.h_S_ i
      = ∑ c : Dev nD, ((Layout.block ⟨2, ![8192, 1024]⟩ ⟨2, ![32768, 1024]⟩ 0 4 c X : S8192x1024.Idx → Elt Ideal .f32) i : EReal) := by
  simp only [pointwise]
  rw [zero_add]
  refine Finset.sum_congr rfl fun c _ => ?_
  rw [Layout.block_apply]
  refine congrArg X (funext fun b => Fin.ext ?_)
  match b with
  | ⟨0, _⟩ => exact (Layout.idx_rows_val _ c i).1.symm
  | ⟨1, _⟩ => exact (Layout.idx_rows_val _ c i).2.symm

end Cert.AllReduce

end
-- ==== Proof.lean ====
/-
# The certificate

The all-reduce of a sum over four devices. Proof/Text.lean … Proof/Run.lean run the kernel; the run is proved once, for any
float values, and read here both at the machine's floats and at exact ones. Proof/Value.lean says what the result is.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.ShloMosaic.TcCoe Idealize.SL.Sem

/-- The kernel with machine floats: it ends, its operand kept, every counter zero. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- The kernel with exact numbers, likewise. -/
theorem frame_ideal : Cert.quiescent_KernelIdeal := fun m ρ _ =>
  (θ_run Cert.KernelIdeal.defs _ _).mono (fun _ h => ⟨fun c => (h.1 c).1, h.2⟩) (Cert.AllReduce.run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With exact numbers every device ends with the reference's result. -/
theorem equal : Cert.algebraic_KernelIdeal_ReferenceIdeal := by
  intro m ρ m' ρ' _ hag
  refine ⟨Cert.AllReduce.total m, ?_, ?_⟩
  · exact (θ_run Cert.KernelIdeal.defs _ _).mono (fun r h c => ⟨Cert.AllReduce.eq_total m _ (h.1 c).2, (h.1 c).1⟩)
      (Cert.AllReduce.run_main (F := Ideal) m ρ)
  · refine (θ_run Cert.ReferenceIdeal.defs _ _).mono (fun r h => ⟨(h 0).1.trans (funext fun i => ?_), (h 0).2⟩)
      (Cert.ReferenceIdeal.Value.run (F := Ideal) m' ρ')
    refine (Cert.AllReduce.ref_total _ i).trans (Finset.sum_congr rfl fun c _ => ?_)
    exact (congrFun (hag c) i).symm

theorem claim : Cert.Claim :=
  ⟨Cert.Kernel.Gen.facts, Cert.KernelIdeal.Gen.facts, Cert.ReferenceIdeal.Gen.facts,
    frame_kernel, frame_ideal, frame_reference, trivial, equal⟩

end Cert.Proof

end
